-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "scale" .bf16 0x3D01#16 ((4 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S8192x512 : Shape := ⟨2, ![8192, 512]⟩
abbrev S5x2x256x256 : Shape := ⟨4, ![5, 2, 256, 256]⟩
abbrev S4x2x256x256 : Shape := ⟨4, ![4, 2, 256, 256]⟩
abbrev S2 : Shape := ⟨1, ![2]⟩
abbrev S4x2 : Shape := ⟨2, ![4, 2]⟩
abbrev S3x2 : Shape := ⟨2, ![3, 2]⟩
abbrev S256x256 : Shape := ⟨2, ![256, 256]⟩
abbrev S1x1x256x256 : Shape := ⟨4, ![1, 1, 256, 256]⟩
abbrev S_ : Shape := ⟨0, ![]⟩
abbrev S1 : Shape := ⟨1, ![1]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S8192x512, .bf16⟩
  | .local _ .vmem, ⟨0, _⟩ => ⟨S512x256, .bf16⟩
  | .local _ .vmem, ⟨1, _⟩ => ⟨S256x512, .bf16⟩
  | .local _ .vmem, ⟨2, _⟩ => ⟨S8192x512, .bf16⟩
  | .local _ .vmem, ⟨3, _⟩ => ⟨S5x2x256x256, .i8⟩
  | .local _ .vmem, ⟨4, _⟩ => ⟨S4x2x256x256, .i8⟩
  | .local _ .vmem, ⟨5, _⟩ => ⟨S5x2x256x256, .i8⟩
  | .local _ .vmem, ⟨6, _⟩ => ⟨S4x2x256x256, .i8⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_130 : BitVec 32 := 1#32
  let v215 : BitVec 32 := Scalar.muli v137 c1_i32_130
  let v216 : BitVec 32 := Scalar.addi c0_i32_131 v215
  v216.toNat
def k0_dev2 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_133 : BitVec 32 := 1#32
  let v217 : BitVec 32 := Scalar.muli v93 c1_i32_133
  let v218 : BitVec 32 := Scalar.addi c0_i32_134 v217
  v218.toNat
def k0_dev3 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_78 : BitVec 32 := 8#32
  let v138 : BitVec 32 := Scalar.addi v49 c8_i32_78
  let c16_i32_79 : BitVec 32 := 16#32
  let c0_i32_80 : BitVec 32 := 0#32
  let v139 : BitVec 1 := Scalar.cmpi .eq c16_i32_79 c0_i32_80
  let c1_i32_81 : BitVec 32 := 1#32
  let v140 : BitVec 32 := Scalar.select v139 c1_i32_81 c16_i32_79
  let v141 : BitVec 32 := Scalar.remsi v138 v140
  let c0_i32_83 : BitVec 32 := 0#32
  let v143 : BitVec 1 := Scalar.cmpi .slt v141 c0_i32_83
  let c0_i32_84 : BitVec 32 := 0#32
  let v144 : BitVec 1 := Scalar.cmpi .slt v140 c0_i32_84
  let v145 : BitVec 1 := Scalar.xori v143 v144
  let c0_i32_82 : BitVec 32 := 0#32
  let v142 : BitVec 1 := Scalar.cmpi .ne v141 c0_i32_82
  let v146 : BitVec 1 := Scalar.andi v145 v142
  let v147 : BitVec 32 := Scalar.addi v141 v140
  let v148 : BitVec 32 := Scalar.select v146 v147 v141
  let c1_i32_85 : BitVec 32 := 1#32
  let v149 : BitVec 1 := Scalar.cmpi .sge v148 c1_i32_85
  let c4_i32_86 : BitVec 32 := 4#32
  let v150 : BitVec 1 := Scalar.cmpi .sle v148 c4_i32_86
  let v151 : BitVec 1 := Scalar.andi v149 v150
  let c4_i32_88 : BitVec 32 := 4#32
  let c1_i32_87 : BitVec 32 := 1#32
  let v152 : BitVec 32 := Scalar.subi v148 c1_i32_87
  let v153 : BitVec 32 := Scalar.muli c4_i32_88 v152
  let c1_i32_89 : BitVec 32 := 1#32
  let v154 : BitVec 32 := Scalar.addi v153 c1_i32_89
  let c5_i32_90 : BitVec 32 := 5#32
  let v155 : BitVec 1 := Scalar.cmpi .sge v148 c5_i32_90
  let c8_i32_91 : BitVec 32 := 8#32
  let v156 : BitVec 1 := Scalar.cmpi .sle v148 c8_i32_91
  let v157 : BitVec 1 := Scalar.andi v155 v156
  let c4_i32_93 : BitVec 32 := 4#32
  let c8_i32_92 : BitVec 32 := 8#32
  let v158 : BitVec 32 := Scalar.subi c8_i32_92 v148
  let v159 : BitVec 32 := Scalar.muli c4_i32_93 v158
  let c2_i32_94 : BitVec 32 := 2#32
  let v160 : BitVec 32 := Scalar.addi v159 c2_i32_94
  let c9_i32_95 : BitVec 32 := 9#32
  let v161 : BitVec 1 := Scalar.cmpi .sge v148 c9_i32_95
  let c12_i32_96 : BitVec 32 := 12#32
  let v162 : BitVec 1 := Scalar.cmpi .sle v148 c12_i32_96
  let v163 : BitVec 1 := Scalar.andi v161 v162
  let c4_i32_98 : BitVec 32 := 4#32
  let c9_i32_97 : BitVec 32 := 9#32
  let v164 : BitVec 32 := Scalar.subi v148 c9_i32_97
  let v165 : BitVec 32 := Scalar.muli c4_i32_98 v164
  let c3_i32_99 : BitVec 32 := 3#32
  let v166 : BitVec 32 := Scalar.addi v165 c3_i32_99
  let c4_i32_107 : BitVec 32 := 4#32
  let c16_i32_100 : BitVec 32 := 16#32
  let v167 : BitVec 32 := Scalar.subi c16_i32_100 v148
  let c16_i32_101 : BitVec 32 := 16#32
  let c0_i32_102 : BitVec 32 := 0#32
  let v168 : BitVec 1 := Scalar.cmpi .eq c16_i32_101 c0_i32_102
  let c1_i32_103 : BitVec 32 := 1#32
  let v169 : BitVec 32 := Scalar.select v168 c1_i32_103 c16_i32_101
  let v170 : BitVec 32 := Scalar.remsi v167 v169
  let c0_i32_105 : BitVec 32 := 0#32
  let v172 : BitVec 1 := Scalar.cmpi .slt v170 c0_i32_105
  let c0_i32_106 : BitVec 32 := 0#32
  let v173 : BitVec 1 := Scalar.cmpi .slt v169 c0_i32_106
  let v174 : BitVec 1 := Scalar.xori v172 v173
  let c0_i32_104 : BitVec 32 := 0#32
  let v171 : BitVec 1 := Scalar.cmpi .ne v170 c0_i32_104
  let v175 : BitVec 1 := Scalar.andi v174 v171
  let v176 : BitVec 32 := Scalar.addi v170 v169
  let v177 : BitVec 32 := Scalar.select v175 v176 v170
  let v178 : BitVec 32 := Scalar.muli c4_i32_107 v177
  let v179 : BitVec 32 := Scalar.select v163 v166 v178
  let v180 : BitVec 32 := Scalar.select v157 v160 v179
  let v181 : BitVec 32 := Scalar.select v151 v154 v180
  let c1_i32_136 : BitVec 32 := 1#32
  let v219 : BitVec 32 := Scalar.muli v181 c1_i32_136
  let v220 : BitVec 32 := Scalar.addi c0_i32_137 v219
  v220.toNat
def k0_dev4 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_78 : BitVec 32 := 8#32
  let v138 : BitVec 32 := Scalar.addi v49 c8_i32_78
  let c16_i32_79 : BitVec 32 := 16#32
  let c0_i32_80 : BitVec 32 := 0#32
  let v139 : BitVec 1 := Scalar.cmpi .eq c16_i32_79 c0_i32_80
  let c1_i32_81 : BitVec 32 := 1#32
  let v140 : BitVec 32 := Scalar.select v139 c1_i32_81 c16_i32_79
  let v141 : BitVec 32 := Scalar.remsi v138 v140
  let c0_i32_83 : BitVec 32 := 0#32
  let v143 : BitVec 1 := Scalar.cmpi .slt v141 c0_i32_83
  let c0_i32_84 : BitVec 32 := 0#32
  let v144 : BitVec 1 := Scalar.cmpi .slt v140 c0_i32_84
  let v145 : BitVec 1 := Scalar.xori v143 v144
  let c0_i32_82 : BitVec 32 := 0#32
  let v142 : BitVec 1 := Scalar.cmpi .ne v141 c0_i32_82
  let v146 : BitVec 1 := Scalar.andi v145 v142
  let v147 : BitVec 32 := Scalar.addi v141 v140
  let v148 : BitVec 32 := Scalar.select v146 v147 v141
  let c1_i32_85 : BitVec 32 := 1#32
  let v149 : BitVec 1 := Scalar.cmpi .sge v148 c1_i32_85
  let c4_i32_86 : BitVec 32 := 4#32
  let v150 : BitVec 1 := Scalar.cmpi .sle v148 c4_i32_86
  let v151 : BitVec 1 := Scalar.andi v149 v150
  let c4_i32_88 : BitVec 32 := 4#32
  let c1_i32_87 : BitVec 32 := 1#32
  let v152 : BitVec 32 := Scalar.subi v148 c1_i32_87
  let v153 : BitVec 32 := Scalar.muli c4_i32_88 v152
  let c1_i32_89 : BitVec 32 := 1#32
  let v154 : BitVec 32 := Scalar.addi v153 c1_i32_89
  let c5_i32_90 : BitVec 32 := 5#32
  let v155 : BitVec 1 := Scalar.cmpi .sge v148 c5_i32_90
  let c8_i32_91 : BitVec 32 := 8#32
  let v156 : BitVec 1 := Scalar.cmpi .sle v148 c8_i32_91
  let v157 : BitVec 1 := Scalar.andi v155 v156
  let c4_i32_93 : BitVec 32 := 4#32
  let c8_i32_92 : BitVec 32 := 8#32
  let v158 : BitVec 32 := Scalar.subi c8_i32_92 v148
  let v159 : BitVec 32 := Scalar.muli c4_i32_93 v158
  let c2_i32_94 : BitVec 32 := 2#32
  let v160 : BitVec 32 := Scalar.addi v159 c2_i32_94
  let c9_i32_95 : BitVec 32 := 9#32
  let v161 : BitVec 1 := Scalar.cmpi .sge v148 c9_i32_95
  let c12_i32_96 : BitVec 32 := 12#32
  let v162 : BitVec 1 := Scalar.cmpi .sle v148 c12_i32_96
  let v163 : BitVec 1 := Scalar.andi v161 v162
  let c4_i32_98 : BitVec 32 := 4#32
  let c9_i32_97 : BitVec 32 := 9#32
  let v164 : BitVec 32 := Scalar.subi v148 c9_i32_97
  let v165 : BitVec 32 := Scalar.muli c4_i32_98 v164
  let c3_i32_99 : BitVec 32 := 3#32
  let v166 : BitVec 32 := Scalar.addi v165 c3_i32_99
  let c4_i32_107 : BitVec 32 := 4#32
  let c16_i32_100 : BitVec 32 := 16#32
  let v167 : BitVec 32 := Scalar.subi c16_i32_100 v148
  let c16_i32_101 : BitVec 32 := 16#32
  let c0_i32_102 : BitVec 32 := 0#32
  let v168 : BitVec 1 := Scalar.cmpi .eq c16_i32_101 c0_i32_102
  let c1_i32_103 : BitVec 32 := 1#32
  let v169 : BitVec 32 := Scalar.select v168 c1_i32_103 c16_i32_101
  let v170 : BitVec 32 := Scalar.remsi v167 v169
  let c0_i32_105 : BitVec 32 := 0#32
  let v172 : BitVec 1 := Scalar.cmpi .slt v170 c0_i32_105
  let c0_i32_106 : BitVec 32 := 0#32
  let v173 : BitVec 1 := Scalar.cmpi .slt v169 c0_i32_106
  let v174 : BitVec 1 := Scalar.xori v172 v173
  let c0_i32_104 : BitVec 32 := 0#32
  let v171 : BitVec 1 := Scalar.cmpi .ne v170 c0_i32_104
  let v175 : BitVec 1 := Scalar.andi v174 v171
  let v176 : BitVec 32 := Scalar.addi v170 v169
  let v177 : BitVec 32 := Scalar.select v175 v176 v170
  let v178 : BitVec 32 := Scalar.muli c4_i32_107 v177
  let v179 : BitVec 32 := Scalar.select v163 v166 v178
  let v180 : BitVec 32 := Scalar.select v157 v160 v179
  let v181 : BitVec 32 := Scalar.select v151 v154 v180
  let c1_i32_145 : BitVec 32 := 1#32
  let v221 : BitVec 32 := Scalar.muli v181 c1_i32_145
  let v222 : BitVec 32 := Scalar.addi c0_i32_146 v221
  v222.toNat
def k0_dev5 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_159 : BitVec 32 := 1#32
  let v231 : BitVec 32 := Scalar.muli v93 c1_i32_159
  let v232 : BitVec 32 := Scalar.addi c0_i32_160 v231
  v232.toNat
def k0_dev6 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_173 : BitVec 32 := 1#32
  let v241 : BitVec 32 := Scalar.muli v137 c1_i32_173
  let v242 : BitVec 32 := Scalar.addi c0_i32_174 v241
  v242.toNat
def k0_dev7 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_78 : BitVec 32 := 8#32
  let v138 : BitVec 32 := Scalar.addi v49 c8_i32_78
  let c16_i32_79 : BitVec 32 := 16#32
  let c0_i32_80 : BitVec 32 := 0#32
  let v139 : BitVec 1 := Scalar.cmpi .eq c16_i32_79 c0_i32_80
  let c1_i32_81 : BitVec 32 := 1#32
  let v140 : BitVec 32 := Scalar.select v139 c1_i32_81 c16_i32_79
  let v141 : BitVec 32 := Scalar.remsi v138 v140
  let c0_i32_83 : BitVec 32 := 0#32
  let v143 : BitVec 1 := Scalar.cmpi .slt v141 c0_i32_83
  let c0_i32_84 : BitVec 32 := 0#32
  let v144 : BitVec 1 := Scalar.cmpi .slt v140 c0_i32_84
  let v145 : BitVec 1 := Scalar.xori v143 v144
  let c0_i32_82 : BitVec 32 := 0#32
  let v142 : BitVec 1 := Scalar.cmpi .ne v141 c0_i32_82
  let v146 : BitVec 1 := Scalar.andi v145 v142
  let v147 : BitVec 32 := Scalar.addi v141 v140
  let v148 : BitVec 32 := Scalar.select v146 v147 v141
  let c1_i32_85 : BitVec 32 := 1#32
  let v149 : BitVec 1 := Scalar.cmpi .sge v148 c1_i32_85
  let c4_i32_86 : BitVec 32 := 4#32
  let v150 : BitVec 1 := Scalar.cmpi .sle v148 c4_i32_86
  let v151 : BitVec 1 := Scalar.andi v149 v150
  let c4_i32_88 : BitVec 32 := 4#32
  let c1_i32_87 : BitVec 32 := 1#32
  let v152 : BitVec 32 := Scalar.subi v148 c1_i32_87
  let v153 : BitVec 32 := Scalar.muli c4_i32_88 v152
  let c1_i32_89 : BitVec 32 := 1#32
  let v154 : BitVec 32 := Scalar.addi v153 c1_i32_89
  let c5_i32_90 : BitVec 32 := 5#32
  let v155 : BitVec 1 := Scalar.cmpi .sge v148 c5_i32_90
  let c8_i32_91 : BitVec 32 := 8#32
  let v156 : BitVec 1 := Scalar.cmpi .sle v148 c8_i32_91
  let v157 : BitVec 1 := Scalar.andi v155 v156
  let c4_i32_93 : BitVec 32 := 4#32
  let c8_i32_92 : BitVec 32 := 8#32
  let v158 : BitVec 32 := Scalar.subi c8_i32_92 v148
  let v159 : BitVec 32 := Scalar.muli c4_i32_93 v158
  let c2_i32_94 : BitVec 32 := 2#32
  let v160 : BitVec 32 := Scalar.addi v159 c2_i32_94
  let c9_i32_95 : BitVec 32 := 9#32
  let v161 : BitVec 1 := Scalar.cmpi .sge v148 c9_i32_95
  let c12_i32_96 : BitVec 32 := 12#32
  let v162 : BitVec 1 := Scalar.cmpi .sle v148 c12_i32_96
  let v163 : BitVec 1 := Scalar.andi v161 v162
  let c4_i32_98 : BitVec 32 := 4#32
  let c9_i32_97 : BitVec 32 := 9#32
  let v164 : BitVec 32 := Scalar.subi v148 c9_i32_97
  let v165 : BitVec 32 := Scalar.muli c4_i32_98 v164
  let c3_i32_99 : BitVec 32 := 3#32
  let v166 : BitVec 32 := Scalar.addi v165 c3_i32_99
  let c4_i32_107 : BitVec 32 := 4#32
  let c16_i32_100 : BitVec 32 := 16#32
  let v167 : BitVec 32 := Scalar.subi c16_i32_100 v148
  let c16_i32_101 : BitVec 32 := 16#32
  let c0_i32_102 : BitVec 32 := 0#32
  let v168 : BitVec 1 := Scalar.cmpi .eq c16_i32_101 c0_i32_102
  let c1_i32_103 : BitVec 32 := 1#32
  let v169 : BitVec 32 := Scalar.select v168 c1_i32_103 c16_i32_101
  let v170 : BitVec 32 := Scalar.remsi v167 v169
  let c0_i32_105 : BitVec 32 := 0#32
  let v172 : BitVec 1 := Scalar.cmpi .slt v170 c0_i32_105
  let c0_i32_106 : BitVec 32 := 0#32
  let v173 : BitVec 1 := Scalar.cmpi .slt v169 c0_i32_106
  let v174 : BitVec 1 := Scalar.xori v172 v173
  let c0_i32_104 : BitVec 32 := 0#32
  let v171 : BitVec 1 := Scalar.cmpi .ne v170 c0_i32_104
  let v175 : BitVec 1 := Scalar.andi v174 v171
  let v176 : BitVec 32 := Scalar.addi v170 v169
  let v177 : BitVec 32 := Scalar.select v175 v176 v170
  let v178 : BitVec 32 := Scalar.muli c4_i32_107 v177
  let v179 : BitVec 32 := Scalar.select v163 v166 v178
  let v180 : BitVec 32 := Scalar.select v157 v160 v179
  let v181 : BitVec 32 := Scalar.select v151 v154 v180
  let c1_i32_185 : BitVec 32 := 1#32
  let v251 : BitVec 32 := Scalar.muli v181 c1_i32_185
  let v252 : BitVec 32 := Scalar.addi c0_i32_186 v251
  v252.toNat
def k0_dev8 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_199 : BitVec 32 := 1#32
  let v261 : BitVec 32 := Scalar.muli v93 c1_i32_199
  let v262 : BitVec 32 := Scalar.addi c0_i32_200 v261
  v262.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_213 : BitVec 32 := 1#32
  let v271 : BitVec 32 := Scalar.muli v137 c1_i32_213
  let v272 : BitVec 32 := Scalar.addi c0_i32_214 v271
  v272.toNat
def k0_off1 (d0 : Dev nD) (c0_i32_253 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_219 : BitVec 32 := 16#32
  let c0_i32_220 : BitVec 32 := 0#32
  let v281 : BitVec 1 := Scalar.cmpi .eq c16_i32_219 c0_i32_220
  let c1_i32_221 : BitVec 32 := 1#32
  let v282 : BitVec 32 := Scalar.select v281 c1_i32_221 c16_i32_219
  let v283 : BitVec 32 := Scalar.remsi v49 v282
  let c0_i32_223 : BitVec 32 := 0#32
  let v285 : BitVec 1 := Scalar.cmpi .slt v283 c0_i32_223
  let c0_i32_224 : BitVec 32 := 0#32
  let v286 : BitVec 1 := Scalar.cmpi .slt v282 c0_i32_224
  let v287 : BitVec 1 := Scalar.xori v285 v286
  let c0_i32_222 : BitVec 32 := 0#32
  let v284 : BitVec 1 := Scalar.cmpi .ne v283 c0_i32_222
  let v288 : BitVec 1 := Scalar.andi v287 v284
  let v289 : BitVec 32 := Scalar.addi v283 v282
  let v290 : BitVec 32 := Scalar.select v288 v289 v283
  let c1_i32_225 : BitVec 32 := 1#32
  let v291 : BitVec 1 := Scalar.cmpi .sge v290 c1_i32_225
  let c4_i32_226 : BitVec 32 := 4#32
  let v292 : BitVec 1 := Scalar.cmpi .sle v290 c4_i32_226
  let v293 : BitVec 1 := Scalar.andi v291 v292
  let c4_i32_228 : BitVec 32 := 4#32
  let c1_i32_227 : BitVec 32 := 1#32
  let v294 : BitVec 32 := Scalar.subi v290 c1_i32_227
  let v295 : BitVec 32 := Scalar.muli c4_i32_228 v294
  let c1_i32_229 : BitVec 32 := 1#32
  let v296 : BitVec 32 := Scalar.addi v295 c1_i32_229
  let c5_i32_230 : BitVec 32 := 5#32
  let v297 : BitVec 1 := Scalar.cmpi .sge v290 c5_i32_230
  let c8_i32_231 : BitVec 32 := 8#32
  let v298 : BitVec 1 := Scalar.cmpi .sle v290 c8_i32_231
  let v299 : BitVec 1 := Scalar.andi v297 v298
  let c4_i32_233 : BitVec 32 := 4#32
  let c8_i32_232 : BitVec 32 := 8#32
  let v300 : BitVec 32 := Scalar.subi c8_i32_232 v290
  let v301 : BitVec 32 := Scalar.muli c4_i32_233 v300
  let c2_i32_234 : BitVec 32 := 2#32
  let v302 : BitVec 32 := Scalar.addi v301 c2_i32_234
  let c9_i32_235 : BitVec 32 := 9#32
  let v303 : BitVec 1 := Scalar.cmpi .sge v290 c9_i32_235
  let c12_i32_236 : BitVec 32 := 12#32
  let v304 : BitVec 1 := Scalar.cmpi .sle v290 c12_i32_236
  let v305 : BitVec 1 := Scalar.andi v303 v304
  let c4_i32_238 : BitVec 32 := 4#32
  let c9_i32_237 : BitVec 32 := 9#32
  let v306 : BitVec 32 := Scalar.subi v290 c9_i32_237
  let v307 : BitVec 32 := Scalar.muli c4_i32_238 v306
  let c3_i32_239 : BitVec 32 := 3#32
  let v308 : BitVec 32 := Scalar.addi v307 c3_i32_239
  let c4_i32_247 : BitVec 32 := 4#32
  let c16_i32_240 : BitVec 32 := 16#32
  let v309 : BitVec 32 := Scalar.subi c16_i32_240 v290
  let c16_i32_241 : BitVec 32 := 16#32
  let c0_i32_242 : BitVec 32 := 0#32
  let v310 : BitVec 1 := Scalar.cmpi .eq c16_i32_241 c0_i32_242
  let c1_i32_243 : BitVec 32 := 1#32
  let v311 : BitVec 32 := Scalar.select v310 c1_i32_243 c16_i32_241
  let v312 : BitVec 32 := Scalar.remsi v309 v311
  let c0_i32_245 : BitVec 32 := 0#32
  let v314 : BitVec 1 := Scalar.cmpi .slt v312 c0_i32_245
  let c0_i32_246 : BitVec 32 := 0#32
  let v315 : BitVec 1 := Scalar.cmpi .slt v311 c0_i32_246
  let v316 : BitVec 1 := Scalar.xori v314 v315
  let c0_i32_244 : BitVec 32 := 0#32
  let v313 : BitVec 1 := Scalar.cmpi .ne v312 c0_i32_244
  let v317 : BitVec 1 := Scalar.andi v316 v313
  let v318 : BitVec 32 := Scalar.addi v312 v311
  let v319 : BitVec 32 := Scalar.select v317 v318 v312
  let v320 : BitVec 32 := Scalar.muli c4_i32_247 v319
  let v321 : BitVec 32 := Scalar.select v305 v308 v320
  let v322 : BitVec 32 := Scalar.select v299 v302 v321
  let v323 : BitVec 32 := Scalar.select v293 v296 v322
  let c512_i32 : BitVec 32 := 512#32
  let v329 : BitVec 32 := Scalar.muli v323 c512_i32
  let v330 : BitVec 32 := Scalar.addi v329 c0_i32_253
  let v331 : Index := Scalar.indexCast v330
  let c0_254 : Index := 0#32
  ![v331.toNat, 0]
def k0_dev10 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_282 : BitVec 32 := 1#32
  let v350 : BitVec 32 := Scalar.muli v93 c1_i32_282
  let v351 : BitVec 32 := Scalar.addi c0_i32_283 v350
  v351.toNat
def k0_dev11 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_296 : BitVec 32 := 1#32
  let v360 : BitVec 32 := Scalar.muli v137 c1_i32_296
  let v361 : BitVec 32 := Scalar.addi c0_i32_297 v360
  v361.toNat
def k0_dev12 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_322 : BitVec 32 := 1#32
  let v378 : BitVec 32 := Scalar.muli v93 c1_i32_322
  let v379 : BitVec 32 := Scalar.addi c0_i32_323 v378
  v379.toNat
def k0_dev13 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_336 : BitVec 32 := 1#32
  let v388 : BitVec 32 := Scalar.muli v137 c1_i32_336
  let v389 : BitVec 32 := Scalar.addi c0_i32_337 v388
  v389.toNat
def k0_off2 (d0 : Dev nD) (c8_i32_342 : BitVec 32) (c0_i32_378 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let v398 : BitVec 32 := Scalar.addi v49 c8_i32_342
  let c16_i32_343 : BitVec 32 := 16#32
  let c0_i32_344 : BitVec 32 := 0#32
  let v399 : BitVec 1 := Scalar.cmpi .eq c16_i32_343 c0_i32_344
  let c1_i32_345 : BitVec 32 := 1#32
  let v400 : BitVec 32 := Scalar.select v399 c1_i32_345 c16_i32_343
  let v401 : BitVec 32 := Scalar.remsi v398 v400
  let c0_i32_347 : BitVec 32 := 0#32
  let v403 : BitVec 1 := Scalar.cmpi .slt v401 c0_i32_347
  let c0_i32_348 : BitVec 32 := 0#32
  let v404 : BitVec 1 := Scalar.cmpi .slt v400 c0_i32_348
  let v405 : BitVec 1 := Scalar.xori v403 v404
  let c0_i32_346 : BitVec 32 := 0#32
  let v402 : BitVec 1 := Scalar.cmpi .ne v401 c0_i32_346
  let v406 : BitVec 1 := Scalar.andi v405 v402
  let v407 : BitVec 32 := Scalar.addi v401 v400
  let v408 : BitVec 32 := Scalar.select v406 v407 v401
  let c1_i32_349 : BitVec 32 := 1#32
  let v409 : BitVec 1 := Scalar.cmpi .sge v408 c1_i32_349
  let c4_i32_350 : BitVec 32 := 4#32
  let v410 : BitVec 1 := Scalar.cmpi .sle v408 c4_i32_350
  let v411 : BitVec 1 := Scalar.andi v409 v410
  let c4_i32_352 : BitVec 32 := 4#32
  let c1_i32_351 : BitVec 32 := 1#32
  let v412 : BitVec 32 := Scalar.subi v408 c1_i32_351
  let v413 : BitVec 32 := Scalar.muli c4_i32_352 v412
  let c1_i32_353 : BitVec 32 := 1#32
  let v414 : BitVec 32 := Scalar.addi v413 c1_i32_353
  let c5_i32_354 : BitVec 32 := 5#32
  let v415 : BitVec 1 := Scalar.cmpi .sge v408 c5_i32_354
  let c8_i32_355 : BitVec 32 := 8#32
  let v416 : BitVec 1 := Scalar.cmpi .sle v408 c8_i32_355
  let v417 : BitVec 1 := Scalar.andi v415 v416
  let c4_i32_357 : BitVec 32 := 4#32
  let c8_i32_356 : BitVec 32 := 8#32
  let v418 : BitVec 32 := Scalar.subi c8_i32_356 v408
  let v419 : BitVec 32 := Scalar.muli c4_i32_357 v418
  let c2_i32_358 : BitVec 32 := 2#32
  let v420 : BitVec 32 := Scalar.addi v419 c2_i32_358
  let c9_i32_359 : BitVec 32 := 9#32
  let v421 : BitVec 1 := Scalar.cmpi .sge v408 c9_i32_359
  let c12_i32_360 : BitVec 32 := 12#32
  let v422 : BitVec 1 := Scalar.cmpi .sle v408 c12_i32_360
  let v423 : BitVec 1 := Scalar.andi v421 v422
  let c4_i32_362 : BitVec 32 := 4#32
  let c9_i32_361 : BitVec 32 := 9#32
  let v424 : BitVec 32 := Scalar.subi v408 c9_i32_361
  let v425 : BitVec 32 := Scalar.muli c4_i32_362 v424
  let c3_i32_363 : BitVec 32 := 3#32
  let v426 : BitVec 32 := Scalar.addi v425 c3_i32_363
  let c4_i32_371 : BitVec 32 := 4#32
  let c16_i32_364 : BitVec 32 := 16#32
  let v427 : BitVec 32 := Scalar.subi c16_i32_364 v408
  let c16_i32_365 : BitVec 32 := 16#32
  let c0_i32_366 : BitVec 32 := 0#32
  let v428 : BitVec 1 := Scalar.cmpi .eq c16_i32_365 c0_i32_366
  let c1_i32_367 : BitVec 32 := 1#32
  let v429 : BitVec 32 := Scalar.select v428 c1_i32_367 c16_i32_365
  let v430 : BitVec 32 := Scalar.remsi v427 v429
  let c0_i32_369 : BitVec 32 := 0#32
  let v432 : BitVec 1 := Scalar.cmpi .slt v430 c0_i32_369
  let c0_i32_370 : BitVec 32 := 0#32
  let v433 : BitVec 1 := Scalar.cmpi .slt v429 c0_i32_370
  let v434 : BitVec 1 := Scalar.xori v432 v433
  let c0_i32_368 : BitVec 32 := 0#32
  let v431 : BitVec 1 := Scalar.cmpi .ne v430 c0_i32_368
  let v435 : BitVec 1 := Scalar.andi v434 v431
  let v436 : BitVec 32 := Scalar.addi v430 v429
  let v437 : BitVec 32 := Scalar.select v435 v436 v430
  let v438 : BitVec 32 := Scalar.muli c4_i32_371 v437
  let v439 : BitVec 32 := Scalar.select v423 v426 v438
  let v440 : BitVec 32 := Scalar.select v417 v420 v439
  let v441 : BitVec 32 := Scalar.select v411 v414 v440
  let c512_i32_377 : BitVec 32 := 512#32
  let v447 : BitVec 32 := Scalar.muli v441 c512_i32_377
  let v448 : BitVec 32 := Scalar.addi v447 c0_i32_378
  let v449 : Index := Scalar.indexCast v448
  let c0_379 : Index := 0#32
  ![v449.toNat, 0]
def k0_off2_at (r : Fin 8) : BitVec 32 × BitVec 32 :=
  if r.val < 4 then
    if r.val < 2 then
      if r.val < 1 then
        (8#32, 0#32)
      else
        (8#32, 256#32)
    else
      if r.val < 3 then
        (1#32, 0#32)
      else
        (1#32, 256#32)
  else
    if r.val < 6 then
      if r.val < 5 then
        (2#32, 0#32)
      else
        (2#32, 256#32)
    else
      if r.val < 7 then
        (3#32, 0#32)
      else
        (3#32, 256#32)
def k0_dev14 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_410 : BitVec 32 := 1#32
  let v468 : BitVec 32 := Scalar.muli v93 c1_i32_410
  let v469 : BitVec 32 := Scalar.addi c0_i32_411 v468
  v469.toNat
def k0_dev15 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_438 : BitVec 32 := 1#32
  let v486 : BitVec 32 := Scalar.muli v93 c1_i32_438
  let v487 : BitVec 32 := Scalar.addi c0_i32_439 v486
  v487.toNat
def k0_dev16 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_466 : BitVec 32 := 1#32
  let v504 : BitVec 32 := Scalar.muli v137 c1_i32_466
  let v505 : BitVec 32 := Scalar.addi c0_i32_467 v504
  v505.toNat
def k0_dev17 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_494 : BitVec 32 := 1#32
  let v522 : BitVec 32 := Scalar.muli v137 c1_i32_494
  let v523 : BitVec 32 := Scalar.addi c0_i32_495 v522
  v523.toNat
def k0_off3 (d0 : Dev nD) (c1_i32_500 : BitVec 32) (c0_i32_536 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let v532 : BitVec 32 := Scalar.subi v49 c1_i32_500
  let c16_i32_501 : BitVec 32 := 16#32
  let c0_i32_502 : BitVec 32 := 0#32
  let v533 : BitVec 1 := Scalar.cmpi .eq c16_i32_501 c0_i32_502
  let c1_i32_503 : BitVec 32 := 1#32
  let v534 : BitVec 32 := Scalar.select v533 c1_i32_503 c16_i32_501
  let v535 : BitVec 32 := Scalar.remsi v532 v534
  let c0_i32_505 : BitVec 32 := 0#32
  let v537 : BitVec 1 := Scalar.cmpi .slt v535 c0_i32_505
  let c0_i32_506 : BitVec 32 := 0#32
  let v538 : BitVec 1 := Scalar.cmpi .slt v534 c0_i32_506
  let v539 : BitVec 1 := Scalar.xori v537 v538
  let c0_i32_504 : BitVec 32 := 0#32
  let v536 : BitVec 1 := Scalar.cmpi .ne v535 c0_i32_504
  let v540 : BitVec 1 := Scalar.andi v539 v536
  let v541 : BitVec 32 := Scalar.addi v535 v534
  let v542 : BitVec 32 := Scalar.select v540 v541 v535
  let c1_i32_507 : BitVec 32 := 1#32
  let v543 : BitVec 1 := Scalar.cmpi .sge v542 c1_i32_507
  let c4_i32_508 : BitVec 32 := 4#32
  let v544 : BitVec 1 := Scalar.cmpi .sle v542 c4_i32_508
  let v545 : BitVec 1 := Scalar.andi v543 v544
  let c4_i32_510 : BitVec 32 := 4#32
  let c1_i32_509 : BitVec 32 := 1#32
  let v546 : BitVec 32 := Scalar.subi v542 c1_i32_509
  let v547 : BitVec 32 := Scalar.muli c4_i32_510 v546
  let c1_i32_511 : BitVec 32 := 1#32
  let v548 : BitVec 32 := Scalar.addi v547 c1_i32_511
  let c5_i32_512 : BitVec 32 := 5#32
  let v549 : BitVec 1 := Scalar.cmpi .sge v542 c5_i32_512
  let c8_i32_513 : BitVec 32 := 8#32
  let v550 : BitVec 1 := Scalar.cmpi .sle v542 c8_i32_513
  let v551 : BitVec 1 := Scalar.andi v549 v550
  let c4_i32_515 : BitVec 32 := 4#32
  let c8_i32_514 : BitVec 32 := 8#32
  let v552 : BitVec 32 := Scalar.subi c8_i32_514 v542
  let v553 : BitVec 32 := Scalar.muli c4_i32_515 v552
  let c2_i32_516 : BitVec 32 := 2#32
  let v554 : BitVec 32 := Scalar.addi v553 c2_i32_516
  let c9_i32_517 : BitVec 32 := 9#32
  let v555 : BitVec 1 := Scalar.cmpi .sge v542 c9_i32_517
  let c12_i32_518 : BitVec 32 := 12#32
  let v556 : BitVec 1 := Scalar.cmpi .sle v542 c12_i32_518
  let v557 : BitVec 1 := Scalar.andi v555 v556
  let c4_i32_520 : BitVec 32 := 4#32
  let c9_i32_519 : BitVec 32 := 9#32
  let v558 : BitVec 32 := Scalar.subi v542 c9_i32_519
  let v559 : BitVec 32 := Scalar.muli c4_i32_520 v558
  let c3_i32_521 : BitVec 32 := 3#32
  let v560 : BitVec 32 := Scalar.addi v559 c3_i32_521
  let c4_i32_529 : BitVec 32 := 4#32
  let c16_i32_522 : BitVec 32 := 16#32
  let v561 : BitVec 32 := Scalar.subi c16_i32_522 v542
  let c16_i32_523 : BitVec 32 := 16#32
  let c0_i32_524 : BitVec 32 := 0#32
  let v562 : BitVec 1 := Scalar.cmpi .eq c16_i32_523 c0_i32_524
  let c1_i32_525 : BitVec 32 := 1#32
  let v563 : BitVec 32 := Scalar.select v562 c1_i32_525 c16_i32_523
  let v564 : BitVec 32 := Scalar.remsi v561 v563
  let c0_i32_527 : BitVec 32 := 0#32
  let v566 : BitVec 1 := Scalar.cmpi .slt v564 c0_i32_527
  let c0_i32_528 : BitVec 32 := 0#32
  let v567 : BitVec 1 := Scalar.cmpi .slt v563 c0_i32_528
  let v568 : BitVec 1 := Scalar.xori v566 v567
  let c0_i32_526 : BitVec 32 := 0#32
  let v565 : BitVec 1 := Scalar.cmpi .ne v564 c0_i32_526
  let v569 : BitVec 1 := Scalar.andi v568 v565
  let v570 : BitVec 32 := Scalar.addi v564 v563
  let v571 : BitVec 32 := Scalar.select v569 v570 v564
  let v572 : BitVec 32 := Scalar.muli c4_i32_529 v571
  let v573 : BitVec 32 := Scalar.select v557 v560 v572
  let v574 : BitVec 32 := Scalar.select v551 v554 v573
  let v575 : BitVec 32 := Scalar.select v545 v548 v574
  let c512_i32_535 : BitVec 32 := 512#32
  let v581 : BitVec 32 := Scalar.muli v575 c512_i32_535
  let v582 : BitVec 32 := Scalar.addi v581 c0_i32_536
  let v583 : Index := Scalar.indexCast v582
  let c0_537 : Index := 0#32
  ![v583.toNat, 0]
def k0_dev18 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_614 : BitVec 32 := 1#32
  let v664 : BitVec 32 := Scalar.muli v93 c1_i32_614
  let v665 : BitVec 32 := Scalar.addi c0_i32_615 v664
  v665.toNat
def k0_dev19 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_642 : BitVec 32 := 1#32
  let v682 : BitVec 32 := Scalar.muli v93 c1_i32_642
  let v683 : BitVec 32 := Scalar.addi c0_i32_643 v682
  v683.toNat
def k0_dev20 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_670 : BitVec 32 := 1#32
  let v700 : BitVec 32 := Scalar.muli v137 c1_i32_670
  let v701 : BitVec 32 := Scalar.addi c0_i32_671 v700
  v701.toNat
def k0_dev21 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_698 : BitVec 32 := 1#32
  let v718 : BitVec 32 := Scalar.muli v137 c1_i32_698
  let v719 : BitVec 32 := Scalar.addi c0_i32_699 v718
  v719.toNat
def k0_off4 (d0 : Dev nD) (c1_i32_705 : BitVec 32) (c0_i32_741 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_704 : BitVec 32 := 8#32
  let v728 : BitVec 32 := Scalar.addi v49 c8_i32_704
  let v729 : BitVec 32 := Scalar.subi v728 c1_i32_705
  let c16_i32_706 : BitVec 32 := 16#32
  let c0_i32_707 : BitVec 32 := 0#32
  let v730 : BitVec 1 := Scalar.cmpi .eq c16_i32_706 c0_i32_707
  let c1_i32_708 : BitVec 32 := 1#32
  let v731 : BitVec 32 := Scalar.select v730 c1_i32_708 c16_i32_706
  let v732 : BitVec 32 := Scalar.remsi v729 v731
  let c0_i32_710 : BitVec 32 := 0#32
  let v734 : BitVec 1 := Scalar.cmpi .slt v732 c0_i32_710
  let c0_i32_711 : BitVec 32 := 0#32
  let v735 : BitVec 1 := Scalar.cmpi .slt v731 c0_i32_711
  let v736 : BitVec 1 := Scalar.xori v734 v735
  let c0_i32_709 : BitVec 32 := 0#32
  let v733 : BitVec 1 := Scalar.cmpi .ne v732 c0_i32_709
  let v737 : BitVec 1 := Scalar.andi v736 v733
  let v738 : BitVec 32 := Scalar.addi v732 v731
  let v739 : BitVec 32 := Scalar.select v737 v738 v732
  let c1_i32_712 : BitVec 32 := 1#32
  let v740 : BitVec 1 := Scalar.cmpi .sge v739 c1_i32_712
  let c4_i32_713 : BitVec 32 := 4#32
  let v741 : BitVec 1 := Scalar.cmpi .sle v739 c4_i32_713
  let v742 : BitVec 1 := Scalar.andi v740 v741
  let c4_i32_715 : BitVec 32 := 4#32
  let c1_i32_714 : BitVec 32 := 1#32
  let v743 : BitVec 32 := Scalar.subi v739 c1_i32_714
  let v744 : BitVec 32 := Scalar.muli c4_i32_715 v743
  let c1_i32_716 : BitVec 32 := 1#32
  let v745 : BitVec 32 := Scalar.addi v744 c1_i32_716
  let c5_i32_717 : BitVec 32 := 5#32
  let v746 : BitVec 1 := Scalar.cmpi .sge v739 c5_i32_717
  let c8_i32_718 : BitVec 32 := 8#32
  let v747 : BitVec 1 := Scalar.cmpi .sle v739 c8_i32_718
  let v748 : BitVec 1 := Scalar.andi v746 v747
  let c4_i32_720 : BitVec 32 := 4#32
  let c8_i32_719 : BitVec 32 := 8#32
  let v749 : BitVec 32 := Scalar.subi c8_i32_719 v739
  let v750 : BitVec 32 := Scalar.muli c4_i32_720 v749
  let c2_i32_721 : BitVec 32 := 2#32
  let v751 : BitVec 32 := Scalar.addi v750 c2_i32_721
  let c9_i32_722 : BitVec 32 := 9#32
  let v752 : BitVec 1 := Scalar.cmpi .sge v739 c9_i32_722
  let c12_i32_723 : BitVec 32 := 12#32
  let v753 : BitVec 1 := Scalar.cmpi .sle v739 c12_i32_723
  let v754 : BitVec 1 := Scalar.andi v752 v753
  let c4_i32_725 : BitVec 32 := 4#32
  let c9_i32_724 : BitVec 32 := 9#32
  let v755 : BitVec 32 := Scalar.subi v739 c9_i32_724
  let v756 : BitVec 32 := Scalar.muli c4_i32_725 v755
  let c3_i32_726 : BitVec 32 := 3#32
  let v757 : BitVec 32 := Scalar.addi v756 c3_i32_726
  let c4_i32_734 : BitVec 32 := 4#32
  let c16_i32_727 : BitVec 32 := 16#32
  let v758 : BitVec 32 := Scalar.subi c16_i32_727 v739
  let c16_i32_728 : BitVec 32 := 16#32
  let c0_i32_729 : BitVec 32 := 0#32
  let v759 : BitVec 1 := Scalar.cmpi .eq c16_i32_728 c0_i32_729
  let c1_i32_730 : BitVec 32 := 1#32
  let v760 : BitVec 32 := Scalar.select v759 c1_i32_730 c16_i32_728
  let v761 : BitVec 32 := Scalar.remsi v758 v760
  let c0_i32_732 : BitVec 32 := 0#32
  let v763 : BitVec 1 := Scalar.cmpi .slt v761 c0_i32_732
  let c0_i32_733 : BitVec 32 := 0#32
  let v764 : BitVec 1 := Scalar.cmpi .slt v760 c0_i32_733
  let v765 : BitVec 1 := Scalar.xori v763 v764
  let c0_i32_731 : BitVec 32 := 0#32
  let v762 : BitVec 1 := Scalar.cmpi .ne v761 c0_i32_731
  let v766 : BitVec 1 := Scalar.andi v765 v762
  let v767 : BitVec 32 := Scalar.addi v761 v760
  let v768 : BitVec 32 := Scalar.select v766 v767 v761
  let v769 : BitVec 32 := Scalar.muli c4_i32_734 v768
  let v770 : BitVec 32 := Scalar.select v754 v757 v769
  let v771 : BitVec 32 := Scalar.select v748 v751 v770
  let v772 : BitVec 32 := Scalar.select v742 v745 v771
  let c512_i32_740 : BitVec 32 := 512#32
  let v778 : BitVec 32 := Scalar.muli v772 c512_i32_740
  let v779 : BitVec 32 := Scalar.addi v778 c0_i32_741
  let v780 : Index := Scalar.indexCast v779
  let c0_742 : Index := 0#32
  ![v780.toNat, 0]
def k0_off5 (d0 : Dev nD) (c1_i32_752 : BitVec 32) (c0_i32_788 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_751 : BitVec 32 := 8#32
  let v791 : BitVec 32 := Scalar.addi v49 c8_i32_751
  let v792 : BitVec 32 := Scalar.addi v791 c1_i32_752
  let c16_i32_753 : BitVec 32 := 16#32
  let c0_i32_754 : BitVec 32 := 0#32
  let v793 : BitVec 1 := Scalar.cmpi .eq c16_i32_753 c0_i32_754
  let c1_i32_755 : BitVec 32 := 1#32
  let v794 : BitVec 32 := Scalar.select v793 c1_i32_755 c16_i32_753
  let v795 : BitVec 32 := Scalar.remsi v792 v794
  let c0_i32_757 : BitVec 32 := 0#32
  let v797 : BitVec 1 := Scalar.cmpi .slt v795 c0_i32_757
  let c0_i32_758 : BitVec 32 := 0#32
  let v798 : BitVec 1 := Scalar.cmpi .slt v794 c0_i32_758
  let v799 : BitVec 1 := Scalar.xori v797 v798
  let c0_i32_756 : BitVec 32 := 0#32
  let v796 : BitVec 1 := Scalar.cmpi .ne v795 c0_i32_756
  let v800 : BitVec 1 := Scalar.andi v799 v796
  let v801 : BitVec 32 := Scalar.addi v795 v794
  let v802 : BitVec 32 := Scalar.select v800 v801 v795
  let c1_i32_759 : BitVec 32 := 1#32
  let v803 : BitVec 1 := Scalar.cmpi .sge v802 c1_i32_759
  let c4_i32_760 : BitVec 32 := 4#32
  let v804 : BitVec 1 := Scalar.cmpi .sle v802 c4_i32_760
  let v805 : BitVec 1 := Scalar.andi v803 v804
  let c4_i32_762 : BitVec 32 := 4#32
  let c1_i32_761 : BitVec 32 := 1#32
  let v806 : BitVec 32 := Scalar.subi v802 c1_i32_761
  let v807 : BitVec 32 := Scalar.muli c4_i32_762 v806
  let c1_i32_763 : BitVec 32 := 1#32
  let v808 : BitVec 32 := Scalar.addi v807 c1_i32_763
  let c5_i32_764 : BitVec 32 := 5#32
  let v809 : BitVec 1 := Scalar.cmpi .sge v802 c5_i32_764
  let c8_i32_765 : BitVec 32 := 8#32
  let v810 : BitVec 1 := Scalar.cmpi .sle v802 c8_i32_765
  let v811 : BitVec 1 := Scalar.andi v809 v810
  let c4_i32_767 : BitVec 32 := 4#32
  let c8_i32_766 : BitVec 32 := 8#32
  let v812 : BitVec 32 := Scalar.subi c8_i32_766 v802
  let v813 : BitVec 32 := Scalar.muli c4_i32_767 v812
  let c2_i32_768 : BitVec 32 := 2#32
  let v814 : BitVec 32 := Scalar.addi v813 c2_i32_768
  let c9_i32_769 : BitVec 32 := 9#32
  let v815 : BitVec 1 := Scalar.cmpi .sge v802 c9_i32_769
  let c12_i32_770 : BitVec 32 := 12#32
  let v816 : BitVec 1 := Scalar.cmpi .sle v802 c12_i32_770
  let v817 : BitVec 1 := Scalar.andi v815 v816
  let c4_i32_772 : BitVec 32 := 4#32
  let c9_i32_771 : BitVec 32 := 9#32
  let v818 : BitVec 32 := Scalar.subi v802 c9_i32_771
  let v819 : BitVec 32 := Scalar.muli c4_i32_772 v818
  let c3_i32_773 : BitVec 32 := 3#32
  let v820 : BitVec 32 := Scalar.addi v819 c3_i32_773
  let c4_i32_781 : BitVec 32 := 4#32
  let c16_i32_774 : BitVec 32 := 16#32
  let v821 : BitVec 32 := Scalar.subi c16_i32_774 v802
  let c16_i32_775 : BitVec 32 := 16#32
  let c0_i32_776 : BitVec 32 := 0#32
  let v822 : BitVec 1 := Scalar.cmpi .eq c16_i32_775 c0_i32_776
  let c1_i32_777 : BitVec 32 := 1#32
  let v823 : BitVec 32 := Scalar.select v822 c1_i32_777 c16_i32_775
  let v824 : BitVec 32 := Scalar.remsi v821 v823
  let c0_i32_779 : BitVec 32 := 0#32
  let v826 : BitVec 1 := Scalar.cmpi .slt v824 c0_i32_779
  let c0_i32_780 : BitVec 32 := 0#32
  let v827 : BitVec 1 := Scalar.cmpi .slt v823 c0_i32_780
  let v828 : BitVec 1 := Scalar.xori v826 v827
  let c0_i32_778 : BitVec 32 := 0#32
  let v825 : BitVec 1 := Scalar.cmpi .ne v824 c0_i32_778
  let v829 : BitVec 1 := Scalar.andi v828 v825
  let v830 : BitVec 32 := Scalar.addi v824 v823
  let v831 : BitVec 32 := Scalar.select v829 v830 v824
  let v832 : BitVec 32 := Scalar.muli c4_i32_781 v831
  let v833 : BitVec 32 := Scalar.select v817 v820 v832
  let v834 : BitVec 32 := Scalar.select v811 v814 v833
  let v835 : BitVec 32 := Scalar.select v805 v808 v834
  let c512_i32_787 : BitVec 32 := 512#32
  let v841 : BitVec 32 := Scalar.muli v835 c512_i32_787
  let v842 : BitVec 32 := Scalar.addi v841 c0_i32_788
  let v843 : Index := Scalar.indexCast v842
  let c0_789 : Index := 0#32
  ![v843.toNat, 0]
def k0_dev22 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_820 : BitVec 32 := 1#32
  let v862 : BitVec 32 := Scalar.muli v93 c1_i32_820
  let v863 : BitVec 32 := Scalar.addi c0_i32_821 v862
  v863.toNat
def k0_dev23 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_848 : BitVec 32 := 1#32
  let v880 : BitVec 32 := Scalar.muli v93 c1_i32_848
  let v881 : BitVec 32 := Scalar.addi c0_i32_849 v880
  v881.toNat
def k0_dev24 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_876 : BitVec 32 := 1#32
  let v898 : BitVec 32 := Scalar.muli v137 c1_i32_876
  let v899 : BitVec 32 := Scalar.addi c0_i32_877 v898
  v899.toNat
def k0_dev25 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_904 : BitVec 32 := 1#32
  let v916 : BitVec 32 := Scalar.muli v137 c1_i32_904
  let v917 : BitVec 32 := Scalar.addi c0_i32_905 v916
  v917.toNat
def k0_dev26 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_1023 : BitVec 32 := 1#32
  let v1058 : BitVec 32 := Scalar.muli v93 c1_i32_1023
  let v1059 : BitVec 32 := Scalar.addi c0_i32_1024 v1058
  v1059.toNat
def k0_dev27 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_1051 : BitVec 32 := 1#32
  let v1076 : BitVec 32 := Scalar.muli v93 c1_i32_1051
  let v1077 : BitVec 32 := Scalar.addi c0_i32_1052 v1076
  v1077.toNat
def k0_dev28 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_1079 : BitVec 32 := 1#32
  let v1094 : BitVec 32 := Scalar.muli v137 c1_i32_1079
  let v1095 : BitVec 32 := Scalar.addi c0_i32_1080 v1094
  v1095.toNat
def k0_dev29 (d0 : Dev nD) : Nat :=
  let c0_i32_1108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_48 : BitVec 32 := 1#32
  let v94 : BitVec 32 := Scalar.subi v49 c1_i32_48
  let c16_i32_49 : BitVec 32 := 16#32
  let c0_i32_50 : BitVec 32 := 0#32
  let v95 : BitVec 1 := Scalar.cmpi .eq c16_i32_49 c0_i32_50
  let c1_i32_51 : BitVec 32 := 1#32
  let v96 : BitVec 32 := Scalar.select v95 c1_i32_51 c16_i32_49
  let v97 : BitVec 32 := Scalar.remsi v94 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c1_i32_55 : BitVec 32 := 1#32
  let v105 : BitVec 1 := Scalar.cmpi .sge v104 c1_i32_55
  let c4_i32_56 : BitVec 32 := 4#32
  let v106 : BitVec 1 := Scalar.cmpi .sle v104 c4_i32_56
  let v107 : BitVec 1 := Scalar.andi v105 v106
  let c4_i32_58 : BitVec 32 := 4#32
  let c1_i32_57 : BitVec 32 := 1#32
  let v108 : BitVec 32 := Scalar.subi v104 c1_i32_57
  let v109 : BitVec 32 := Scalar.muli c4_i32_58 v108
  let c1_i32_59 : BitVec 32 := 1#32
  let v110 : BitVec 32 := Scalar.addi v109 c1_i32_59
  let c5_i32_60 : BitVec 32 := 5#32
  let v111 : BitVec 1 := Scalar.cmpi .sge v104 c5_i32_60
  let c8_i32_61 : BitVec 32 := 8#32
  let v112 : BitVec 1 := Scalar.cmpi .sle v104 c8_i32_61
  let v113 : BitVec 1 := Scalar.andi v111 v112
  let c4_i32_63 : BitVec 32 := 4#32
  let c8_i32_62 : BitVec 32 := 8#32
  let v114 : BitVec 32 := Scalar.subi c8_i32_62 v104
  let v115 : BitVec 32 := Scalar.muli c4_i32_63 v114
  let c2_i32_64 : BitVec 32 := 2#32
  let v116 : BitVec 32 := Scalar.addi v115 c2_i32_64
  let c9_i32_65 : BitVec 32 := 9#32
  let v117 : BitVec 1 := Scalar.cmpi .sge v104 c9_i32_65
  let c12_i32_66 : BitVec 32 := 12#32
  let v118 : BitVec 1 := Scalar.cmpi .sle v104 c12_i32_66
  let v119 : BitVec 1 := Scalar.andi v117 v118
  let c4_i32_68 : BitVec 32 := 4#32
  let c9_i32_67 : BitVec 32 := 9#32
  let v120 : BitVec 32 := Scalar.subi v104 c9_i32_67
  let v121 : BitVec 32 := Scalar.muli c4_i32_68 v120
  let c3_i32_69 : BitVec 32 := 3#32
  let v122 : BitVec 32 := Scalar.addi v121 c3_i32_69
  let c4_i32_77 : BitVec 32 := 4#32
  let c16_i32_70 : BitVec 32 := 16#32
  let v123 : BitVec 32 := Scalar.subi c16_i32_70 v104
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let v134 : BitVec 32 := Scalar.muli c4_i32_77 v133
  let v135 : BitVec 32 := Scalar.select v119 v122 v134
  let v136 : BitVec 32 := Scalar.select v113 v116 v135
  let v137 : BitVec 32 := Scalar.select v107 v110 v136
  let c1_i32_1107 : BitVec 32 := 1#32
  let v1112 : BitVec 32 := Scalar.muli v137 c1_i32_1107
  let v1113 : BitVec 32 := Scalar.addi c0_i32_1108 v1112
  v1113.toNat
def k0_dev30 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_1229 : BitVec 32 := 1#32
  let v1256 : BitVec 32 := Scalar.muli v93 c1_i32_1229
  let v1257 : BitVec 32 := Scalar.addi c0_i32_1230 v1256
  v1257.toNat
def k0_dev31 (d0 : Dev nD) : Nat :=
  let c0_i32_1258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_1257 : BitVec 32 := 1#32
  let v1274 : BitVec 32 := Scalar.muli v93 c1_i32_1257
  let v1275 : BitVec 32 := Scalar.addi c0_i32_1258 v1274
  v1275.toNat
def k0_dev32 (d0 : Dev nD) : Nat :=
  let c0_i32_1405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_1404 : BitVec 32 := 1#32
  let v1432 : BitVec 32 := Scalar.muli v93 c1_i32_1404
  let v1433 : BitVec 32 := Scalar.addi c0_i32_1405 v1432
  v1433.toNat
def k0_dev33 (d0 : Dev nD) : Nat :=
  let c0_i32_1433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c1_i32_28 : BitVec 32 := 1#32
  let v61 : BitVec 1 := Scalar.cmpi .sge v60 c1_i32_28
  let c4_i32_29 : BitVec 32 := 4#32
  let v62 : BitVec 1 := Scalar.cmpi .sle v60 c4_i32_29
  let v63 : BitVec 1 := Scalar.andi v61 v62
  let c4_i32_31 : BitVec 32 := 4#32
  let c1_i32_30 : BitVec 32 := 1#32
  let v64 : BitVec 32 := Scalar.subi v60 c1_i32_30
  let v65 : BitVec 32 := Scalar.muli c4_i32_31 v64
  let c1_i32_32 : BitVec 32 := 1#32
  let v66 : BitVec 32 := Scalar.addi v65 c1_i32_32
  let c5_i32 : BitVec 32 := 5#32
  let v67 : BitVec 1 := Scalar.cmpi .sge v60 c5_i32
  let c8_i32_33 : BitVec 32 := 8#32
  let v68 : BitVec 1 := Scalar.cmpi .sle v60 c8_i32_33
  let v69 : BitVec 1 := Scalar.andi v67 v68
  let c4_i32_35 : BitVec 32 := 4#32
  let c8_i32_34 : BitVec 32 := 8#32
  let v70 : BitVec 32 := Scalar.subi c8_i32_34 v60
  let v71 : BitVec 32 := Scalar.muli c4_i32_35 v70
  let c2_i32_36 : BitVec 32 := 2#32
  let v72 : BitVec 32 := Scalar.addi v71 c2_i32_36
  let c9_i32_37 : BitVec 32 := 9#32
  let v73 : BitVec 1 := Scalar.cmpi .sge v60 c9_i32_37
  let c12_i32 : BitVec 32 := 12#32
  let v74 : BitVec 1 := Scalar.cmpi .sle v60 c12_i32
  let v75 : BitVec 1 := Scalar.andi v73 v74
  let c4_i32_39 : BitVec 32 := 4#32
  let c9_i32_38 : BitVec 32 := 9#32
  let v76 : BitVec 32 := Scalar.subi v60 c9_i32_38
  let v77 : BitVec 32 := Scalar.muli c4_i32_39 v76
  let c3_i32 : BitVec 32 := 3#32
  let v78 : BitVec 32 := Scalar.addi v77 c3_i32
  let c4_i32_47 : BitVec 32 := 4#32
  let c16_i32_40 : BitVec 32 := 16#32
  let v79 : BitVec 32 := Scalar.subi c16_i32_40 v60
  let c16_i32_41 : BitVec 32 := 16#32
  let c0_i32_42 : BitVec 32 := 0#32
  let v80 : BitVec 1 := Scalar.cmpi .eq c16_i32_41 c0_i32_42
  let c1_i32_43 : BitVec 32 := 1#32
  let v81 : BitVec 32 := Scalar.select v80 c1_i32_43 c16_i32_41
  let v82 : BitVec 32 := Scalar.remsi v79 v81
  let c0_i32_45 : BitVec 32 := 0#32
  let v84 : BitVec 1 := Scalar.cmpi .slt v82 c0_i32_45
  let c0_i32_46 : BitVec 32 := 0#32
  let v85 : BitVec 1 := Scalar.cmpi .slt v81 c0_i32_46
  let v86 : BitVec 1 := Scalar.xori v84 v85
  let c0_i32_44 : BitVec 32 := 0#32
  let v83 : BitVec 1 := Scalar.cmpi .ne v82 c0_i32_44
  let v87 : BitVec 1 := Scalar.andi v86 v83
  let v88 : BitVec 32 := Scalar.addi v82 v81
  let v89 : BitVec 32 := Scalar.select v87 v88 v82
  let v90 : BitVec 32 := Scalar.muli c4_i32_47 v89
  let v91 : BitVec 32 := Scalar.select v75 v78 v90
  let v92 : BitVec 32 := Scalar.select v69 v72 v91
  let v93 : BitVec 32 := Scalar.select v63 v66 v92
  let c1_i32_1432 : BitVec 32 := 1#32
  let v1450 : BitVec 32 := Scalar.muli v93 c1_i32_1432
  let v1451 : BitVec 32 := Scalar.addi c0_i32_1433 v1450
  v1451.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "scale" => some ((4 / 127 : ℝ) : EReal)
  | _ => none
-- ==== ReferenceIdeal.lean ====
abbrev S8192x256 : Shape := ⟨2, ![8192, 256]⟩
abbrev S256x512 : Shape := ⟨2, ![256, 512]⟩
abbrev S_ : Shape := ⟨0, ![]⟩
abbrev S8192x512 : Shape := ⟨2, ![8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x512, .bf16⟩
  | .hbm, ⟨2, _⟩ => ⟨S8192x256, .f32⟩
  | .hbm, ⟨3, _⟩ => ⟨S_, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x256, .i32⟩
  | .hbm, ⟨16, _⟩ => ⟨S8192x256, .i8⟩
  | .hbm, ⟨17, _⟩ => ⟨S8192x256, .i32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S256x512, .f32⟩
  | .hbm, ⟨23, _⟩ => ⟨S8192x512, .f32⟩
  | .hbm, ⟨24, _⟩ => ⟨S8192x512, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Proof.Word.lean ====
/-
# One quantised element

The kernel clamps `a · 31.75`, rounded to even, to `[-127, 127]` and converts straight to eight bits; the reference
converts the same number to thirty-two bits, cuts it to eight and widens it again. A number in that range is read back
the same either way. The scale then comes off the other factor: `4/127` times `b` on one side, a division by `31.75` on
the other.
-/
module

public import Idealize.ShloMosaic.Lib.IdealHost
public import Idealize.ShloMosaic.PureOps.Ideal.Laws

@[expose] public section

noncomputable section

namespace Cert.Gather

open Idealize.ShloMosaic

/-! ## The constants -/

theorem scale_f32 : Ideal.ofBits .f32 0x41FE0000#32 = ((127 / 4 : ℝ) : EReal) := by
  simp [Ideal.ofBits, Ideal.ieee, -EReal.coe_mul]; norm_num
theorem scale_bf16 : Ideal.ofBits .bf16 0x41FE#16 = ((127 / 4 : ℝ) : EReal) := by
  simp [Ideal.ofBits, Ideal.ieee, -EReal.coe_mul]; norm_num
theorem top_f32 : Ideal.ofBits .f32 0x42FE0000#32 = ((127 : ℝ) : EReal) := by
  simp [Ideal.ofBits, Ideal.ieee, -EReal.coe_mul]; norm_num
theorem bottom_f32 : Ideal.ofBits .f32 0xC2FE0000#32 = ((-127 : ℝ) : EReal) := by
  simp [Ideal.ofBits, Ideal.ieee, -EReal.coe_mul, -EReal.coe_neg]; norm_num

/-! ## The element -/

/-- `a` scaled, rounded and clamped. -/
def clamped (a : EReal) : EReal :=
  min (Ideal.ofBits .f32 0x42FE0000#32) (max (Ideal.ofBits .f32 0xC2FE0000#32)
    (Ideal.liftRound Ideal.roundHalfEven (a * ((127 / 4 : ℝ) : EReal))))

/-- The integer it is kept as. -/
def level (a : EReal) : ℤ := (Ideal.fptosi 8 (clamped a)).toInt

theorem clamped_real (a : EReal) : ∃ r : ℝ, clamped a = (r : EReal) ∧ -127 ≤ r ∧ r ≤ 127 := by
  have hlo : ((-127 : ℝ) : EReal) ≤ clamped a := by
    unfold clamped; rw [top_f32, bottom_f32]
    exact le_min (EReal.coe_le_coe_iff.2 (by norm_num)) (le_max_left _ _)
  have hhi : clamped a ≤ ((127 : ℝ) : EReal) := by
    unfold clamped; rw [top_f32]; exact min_le_left _ _
  have hb : clamped a ≠ ⊥ := fun h => by rw [h] at hlo; exact absurd (le_bot_iff.1 hlo) (EReal.coe_ne_bot _)
  have ht : clamped a ≠ ⊤ := fun h => by rw [h] at hhi; exact absurd (top_le_iff.1 hhi) (EReal.coe_ne_top _)
  refine ⟨(clamped a).toReal, (EReal.coe_toReal ht hb).symm, ?_, ?_⟩
  · rw [← EReal.coe_toReal ht hb] at hlo; exact EReal.coe_le_coe_iff.1 hlo
  · rw [← EReal.coe_toReal ht hb] at hhi; exact EReal.coe_le_coe_iff.1 hhi

/-- Cut to eight bits and widened again, a number that fits in eight bits is itself. -/
theorem narrow_widen (z : ℤ) (h₁ : -127 ≤ z) (h₂ : z ≤ 127) :
    (((BitVec.ofInt 32 z).setWidth 8).signExtend 32).toInt = (BitVec.ofInt 8 z).toInt := by
  have h : (BitVec.ofInt 32 z).setWidth 8 = BitVec.ofInt 8 z := by
    apply BitVec.eq_of_toInt_eq
    simp only [BitVec.toInt_setWidth, BitVec.toInt_ofInt, BitVec.toNat_ofInt]
    simp only [Int.bmod]
    omega
  rw [h, BitVec.toInt_signExtend_of_le (by decide)]

theorem level_wide (a : EReal) : (((Ideal.fptosi 32 (clamped a)).setWidth 8).signExtend 32).toInt = level a := by
  obtain ⟨r, h, h₁, h₂⟩ := clamped_real a
  unfold level
  rw [h]
  unfold Ideal.fptosi
  rw [Ideal.toIntClamped_coe, Ideal.toIntClamped_coe]
  have hz : -127 ≤ (if 0 ≤ r then ⌊r⌋ else ⌈r⌉) ∧ (if 0 ≤ r then ⌊r⌋ else ⌈r⌉) ≤ 127 := by
    split
    · exact ⟨Int.le_floor.2 (by push_cast; linarith), by have := Int.floor_le r; exact_mod_cast this.trans h₂⟩
    · exact ⟨by have := (h₁.trans (Int.le_ceil r)); exact_mod_cast this, Int.ceil_le.2 (by push_cast; linarith)⟩
  generalize (if 0 ≤ r then ⌊r⌋ else ⌈r⌉) = z at hz
  rw [show max (-((2 ^ (32 - 1) : ℕ) : ℤ)) (min (((2 ^ (32 - 1) : ℕ) : ℤ) - 1) z) = z by norm_num; omega,
    show max (-((2 ^ (8 - 1) : ℕ) : ℤ)) (min (((2 ^ (8 - 1) : ℕ) : ℤ) - 1) z) = z by norm_num; omega]
  exact narrow_widen z hz.1 hz.2

/-- The scale taken off either factor. -/
theorem descale (x b : EReal) : x * (b * ((4 / 127 : ℝ) : EReal)) = Ideal.div x ((127 / 4 : ℝ) : EReal) * b := by
  rw [Ideal.div_coe (by norm_num), show (1 / (127 / 4) : ℝ) = 4 / 127 by norm_num, mul_comm b, mul_assoc]

end Cert.Gather

end
-- ==== Proof.Ring.lean ====
/-
# The ring, its thirty transfers and their timetable

The sixteen devices form one ring. Each device keeps the int8 form of its own block of `A` in two halves and moves
them in four streams: its own chunk to the right (`ro`, four hops) and to the left (`lo`, three hops), and the chunk
of the device opposite it — received directly by `a` — to the right (`ra`) and to the left (`la`). Every device runs
the same text, so a transfer is named by its stream, its hop and its half, and everything below is said once for all
devices: which slot it reads, which slot of which neighbour it writes, and at which step of the body it is started,
its landing awaited, and its source given back.
-/
module

public import proofs.«01_k».proof.Proof.Gen.KernelIdeal.Skeleton
public import proofs.«01_k».proof.Proof.Gen.KernelIdeal.Launch

@[expose] public section

namespace Cert.Gather

open Cert.KernelIdeal Cert.KernelIdeal.Gen
open Idealize.ShloMosaic

/-- A transfer: its stream, hop and half. -/
inductive Tr
  | a (h : Fin 2)
  | ro (s : Fin 4) (h : Fin 2)
  | lo (s : Fin 3) (h : Fin 2)
  | ra (s : Fin 4) (h : Fin 2)
  | la (s : Fin 3) (h : Fin 2)
  deriving DecidableEq, Fintype

/-- A slot of one of the four chunk buffers: the buffer, the hop and the half. -/
inductive Slot
  | cro (s : Fin 5) (h : Fin 2)
  | clo (s : Fin 4) (h : Fin 2)
  | cra (s : Fin 5) (h : Fin 2)
  | cla (s : Fin 4) (h : Fin 2)
  deriving DecidableEq, Fintype

/-! ## Who is next to whom -/

/-- Device `c`'s right (0), left (1) and opposite (2) neighbour on the ring. -/
def nbr : Fin 3 → Dev nD → Dev nD
  | 0, c => (![1, 5, 3, 7, 0, 9, 2, 11, 4, 13, 6, 15, 8, 14, 10, 12] : Fin 16 → Fin 16) c
  | 1, c => (![4, 0, 6, 2, 8, 1, 10, 3, 12, 5, 14, 7, 15, 9, 13, 11] : Fin 16 → Fin 16) c
  | 2, c => (![2, 3, 0, 1, 6, 7, 4, 5, 10, 11, 8, 9, 14, 15, 12, 13] : Fin 16 → Fin 16) c
/-- The way back. -/
def opp : Fin 3 → Fin 3 := ![1, 0, 2]

theorem nbr_opp (d : Fin 3) (c : Dev nD) : nbr d (nbr (opp d) c) = c := by revert d c; decide
theorem opp_nbr (d : Fin 3) (c : Dev nD) : nbr (opp d) (nbr d c) = c := by revert d c; decide

/-- Going one step in direction `d`, as a permutation of the devices. -/
def turn (d : Fin 3) : Dev nD ≃ Dev nD := ⟨nbr d, nbr (opp d), opp_nbr d, nbr_opp d⟩

/-! ## The transfers -/

/-- The direction a transfer goes. -/
def Tr.dir : Tr → Fin 3
  | .a _ => 2 | .ro _ _ => 0 | .lo _ _ => 1 | .ra _ _ => 0 | .la _ _ => 1
/-- The device it writes on. -/
def Tr.to (t : Tr) (c : Dev nD) : Dev nD := nbr t.dir c
/-- The device that writes by it on `c`. -/
def Tr.frm (t : Tr) (c : Dev nD) : Dev nD := nbr (opp t.dir) c

/-- The slot it reads. -/
def Tr.src : Tr → Slot
  | .a h => .cro 0 h
  | .ro s h => .cro s.castSucc h
  | .lo s h => .clo s.castSucc h
  | .ra s h => .cra s.castSucc h
  | .la s h => if s = 0 then .cra 0 h else .cla s.castSucc h
/-- The slot it writes. -/
def Tr.dst : Tr → Slot
  | .a h => .cra 0 h
  | .ro s h => .cro s.succ h
  | .lo s h => .clo s.succ h
  | .ra s h => .cra s.succ h
  | .la s h => .cla s.succ h
/-- Which third of the source's share it borrows: a slot may be read by two transfers at once. -/
def Tr.piece : Tr → Fin 3
  | .ro s _ => if s = 0 then 1 else 0
  | .la s _ => if s = 0 then 1 else 0
  | _ => 0

/-- The step (counted from the barrier) at which it is started. -/
def Tr.sentAt : Tr → ℕ
  | .a h => 3 * h.val
  | .ro s h => (![![1, 4], ![17, 19], ![41, 43], ![65, 67]] : Fin 4 → Fin 2 → ℕ) s h
  | .lo s h => (![![2, 5], ![21, 23], ![45, 47]] : Fin 3 → Fin 2 → ℕ) s h
  | .ra s h => (![![9, 12], ![29, 31], ![53, 55], ![75, 77]] : Fin 4 → Fin 2 → ℕ) s h
  | .la s h => (![![10, 13], ![33, 35], ![57, 59]] : Fin 3 → Fin 2 → ℕ) s h
/-- The step at which the transfer of the same name into this device is awaited. -/
def Tr.landAt : Tr → ℕ
  | .a h => 8 + 3 * h.val
  | .ro s h => (![![16, 18], ![40, 42], ![64, 66], ![84, 85]] : Fin 4 → Fin 2 → ℕ) s h
  | .lo s h => (![![20, 22], ![44, 46], ![68, 69]] : Fin 3 → Fin 2 → ℕ) s h
  | .ra s h => (![![28, 30], ![52, 54], ![74, 76], ![88, 89]] : Fin 4 → Fin 2 → ℕ) s h
  | .la s h => (![![32, 34], ![56, 58], ![78, 79]] : Fin 3 → Fin 2 → ℕ) s h
/-- The step at which its source is awaited back. -/
def Tr.backAt : Tr → ℕ
  | .a h => 92 + h.val
  | .ro s h => 94 + 4 * s.val + 2 * h.val
  | .ra s h => 95 + 4 * s.val + 2 * h.val
  | .lo s h => 110 + 4 * s.val + 2 * h.val
  | .la s h => 111 + 4 * s.val + 2 * h.val
/-- Its place in the order of waits: a device waiting for it owes only transfers of a greater place. -/
def Tr.lev : Tr → ℕ
  | .a _ => 2
  | .ro s _ => s.val + 3 | .lo s _ => s.val + 3 | .ra s _ => s.val + 3 | .la s _ => s.val + 3

/-! ## The slots -/

/-- Its half. -/
def Slot.half : Slot → Fin 2
  | .cro _ h => h | .clo _ h => h | .cra _ h => h | .cla _ h => h
/-- Whose chunk device `c` keeps in it, once it is filled. -/
def Slot.org : Slot → Dev nD → Dev nD
  | .cro s _, c => (nbr 1)^[s.val] c
  | .clo s _, c => (nbr 0)^[s.val] c
  | .cra s _, c => (nbr 1)^[s.val] (nbr 2 c)
  | .cla s _, c => (nbr 0)^[s.val] (nbr 2 c)
/-- The slots the device fills itself. -/
def Slot.own : Slot → Bool
  | .cro s _ => s = 0
  | .clo s _ => s = 0
  | _ => false
/-- The slots nobody fills. -/
def Slot.idle : Slot → Bool
  | .cla s _ => s = 0
  | _ => false
/-- The slots multiplied by `B`: every filled one but the second copy of the device's own chunk. -/
def Slot.used : Slot → Bool
  | .clo s _ => s ≠ 0
  | .cla s _ => s ≠ 0
  | _ => true
/-- The transfer that fills it. -/
def Slot.fill : Slot → Option Tr
  | .cro s h => if hs : s = 0 then none else some (.ro (s.pred hs) h)
  | .clo s h => if hs : s = 0 then none else some (.lo (s.pred hs) h)
  | .cra s h => if hs : s = 0 then some (.a h) else some (.ra (s.pred hs) h)
  | .cla s h => if hs : s = 0 then none else some (.la (s.pred hs) h)
/-- The transfer that borrows its `p`-th third. -/
def Slot.lent : Slot → Fin 3 → Option Tr
  | .cro s h, 0 => if s = 0 then some (.a h) else if hs : s.val < 4 then some (.ro ⟨s.val, hs⟩ h) else none
  | .cro s h, 1 => if s = 0 then some (.ro 0 h) else none
  | .clo s h, 0 => if hs : s.val < 3 then some (.lo ⟨s.val, hs⟩ h) else none
  | .cra s h, 0 => if hs : s.val < 4 then some (.ra ⟨s.val, hs⟩ h) else none
  | .cra s h, 1 => if s = 0 then some (.la 0 h) else none
  | .cla s h, 0 => if s = 0 then none else if hs : s.val < 3 then some (.la ⟨s.val, hs⟩ h) else none
  | _, _ => none
/-- The step at which its product with `B` is stored. -/
def Slot.storeAt : Slot → ℕ
  | .cro s h => (![6, 24, 48, 70, 86] : Fin 5 → ℕ) s + h.val
  | .clo s h => (![0, 26, 50, 72] : Fin 4 → ℕ) s + h.val
  | .cra s h => (![14, 36, 60, 80, 90] : Fin 5 → ℕ) s + h.val
  | .cla s h => (![0, 38, 62, 82] : Fin 4 → ℕ) s + h.val

/-- Before step `n` the device holds the `p`-th third of the slot: it is filled, and the third is not lent. -/
def av (sl : Slot) (p : Fin 3) (n : ℕ) : Bool :=
  (match sl.fill with | none => sl.own | some t => decide (t.landAt < n))
    && (match sl.lent p with | none => true | some t => !(decide (t.sentAt < n) && decide (n ≤ t.backAt)))

/-! ## The timetable is consistent

Each fact is a finite check over the transfers and slots. -/

theorem sent_back (t : Tr) : t.sentAt < t.backAt := by revert t; decide +kernel
theorem sent_ne (t t' : Tr) (h : t' ≠ t) : t'.sentAt ≠ t.sentAt := by revert t t'; decide +kernel
theorem land_ne (t t' : Tr) (h : t' ≠ t) : t'.landAt ≠ t.landAt := by revert t t'; decide +kernel
theorem back_ne (t t' : Tr) (h : t' ≠ t) : t'.backAt ≠ t.backAt := by revert t t'; decide +kernel
theorem sent_ne_back (t t' : Tr) : t'.sentAt ≠ t.backAt := by revert t t'; decide +kernel
theorem sent_ne_land (t t' : Tr) : t'.sentAt ≠ t.landAt := by revert t t'; decide +kernel
theorem land_ne_back (t t' : Tr) : t'.landAt ≠ t.backAt := by revert t t'; decide +kernel
theorem store_ne (sl : Slot) (t : Tr) (h : sl.used = true) :
    t.sentAt ≠ sl.storeAt ∧ t.landAt ≠ sl.storeAt ∧ t.backAt ≠ sl.storeAt := by revert sl t; decide +kernel
theorem store_store (sl sl' : Slot) (h : sl.used = true) (h' : sl'.used = true) (e : sl ≠ sl') : sl'.storeAt ≠ sl.storeAt := by
  revert sl sl'; decide +kernel
theorem sent_ne_store (t : Tr) (sl : Slot) (h : sl.used = true) : sl.storeAt ≠ t.sentAt := fun e => (store_ne sl t h).1 e.symm
theorem land_ne_store (t : Tr) (sl : Slot) (h : sl.used = true) : sl.storeAt ≠ t.landAt := fun e => (store_ne sl t h).2.1 e.symm
theorem back_ne_store (t : Tr) (sl : Slot) (h : sl.used = true) : sl.storeAt ≠ t.backAt := fun e => (store_ne sl t h).2.2 e.symm

theorem av_send (t : Tr) : av t.src t.piece t.sentAt = true ∧ av t.src t.piece (t.sentAt + 1) = false := by revert t; decide +kernel
theorem av_send_ne (t : Tr) (sl : Slot) (p : Fin 3) (h : ¬ (sl = t.src ∧ p = t.piece)) : av sl p t.sentAt = av sl p (t.sentAt + 1) := by
  revert t sl p; decide +kernel
theorem av_land (t : Tr) (p : Fin 3) : av t.dst p t.landAt = false ∧ av t.dst p (t.landAt + 1) = true := by revert t p; decide +kernel
theorem av_land_ne (t : Tr) (sl : Slot) (p : Fin 3) (h : sl ≠ t.dst) : av sl p t.landAt = av sl p (t.landAt + 1) := by
  revert t sl p; decide +kernel
theorem av_back (t : Tr) : av t.src t.piece t.backAt = false ∧ av t.src t.piece (t.backAt + 1) = true := by revert t; decide +kernel
theorem av_back_ne (t : Tr) (sl : Slot) (p : Fin 3) (h : ¬ (sl = t.src ∧ p = t.piece)) : av sl p t.backAt = av sl p (t.backAt + 1) := by
  revert t sl p; decide +kernel
theorem av_store (sl sl' : Slot) (p : Fin 3) (h : sl.used = true) : av sl' p sl.storeAt = av sl' p (sl.storeAt + 1) := by
  revert sl sl' p; decide +kernel
theorem av_load (sl : Slot) (h : sl.used = true) : av sl 2 sl.storeAt = true := by revert sl; decide +kernel
theorem av_end (sl : Slot) (p : Fin 3) (h : sl.idle = false) : av sl p 122 = true := by revert sl p; decide +kernel
theorem av_zero (sl : Slot) (p : Fin 3) : av sl p 0 = sl.own := by revert sl p; decide +kernel
theorem av_idle (sl : Slot) (p : Fin 3) (n : ℕ) (h : sl.idle = true) : av sl p n = false := by
  have h1 : sl.fill = none ∧ sl.own = false := by revert sl; decide +kernel
  unfold av; rw [h1.1, h1.2]; rfl

/-- A device that waits for a transfer still owes only transfers of a greater place. -/
theorem lev_land (t t' : Tr) (h : t.landAt ≤ t'.sentAt) : t.lev < t'.lev := by revert t t'; decide +kernel
theorem lev_back (t' : Tr) : 0 < t'.lev := by revert t'; decide +kernel
theorem lev_pos (t : Tr) : 1 < t.lev := by revert t; decide +kernel

/-- A transfer carries the chunk on: what `c` keeps in the source is what the receiver is to keep in the target. -/
theorem org_dst (t : Tr) (c : Dev nD) : t.dst.org (t.to c) = t.src.org c := by revert t c; decide +kernel
theorem half_dst (t : Tr) : t.dst.half = t.src.half := by revert t; decide +kernel
/-- Every device's chunk passes by, and is multiplied. -/
theorem org_all (c d : Dev nD) (h : Fin 2) : ∃ sl : Slot, sl.used = true ∧ sl.org c = d ∧ sl.half = h := by
  revert c d h; decide +kernel
theorem store_lt (sl : Slot) : sl.storeAt < 122 := by revert sl; decide +kernel

theorem dst_inj (t t' : Tr) (h : t.dst = t'.dst) : t = t' := by revert t t'; decide +kernel
/-- The slots: the device's own, the idle, and each transfer's target. -/
theorem slot_kinds (sl : Slot) : (sl.own = true ∧ ∀ t : Tr, t.dst ≠ sl) ∨ (sl.idle = true ∧ ∀ t : Tr, t.dst ≠ sl) ∨ ∃ t : Tr, t.dst = sl := by
  revert sl; decide +kernel

/-! ## The views and the semaphores, as the program spells them -/

theorem inb5 (s : Fin 5) (h : Fin 2) : ∀ a, ![s.val, h.val, 0, 0] a + S1x1x256x256.size a ≤ S5x2x256x256.size a := by revert s h; decide
theorem inb4 (s : Fin 4) (h : Fin 2) : ∀ a, ![s.val, h.val, 0, 0] a + S1x1x256x256.size a ≤ S4x2x256x256.size a := by revert s h; decide

/-- A slot as the loads and stores address it. -/
def Slot.box : Slot → Memref sig .tc .vmem S1x1x256x256 .i8
  | .cro s h => (Memref.whole cc0_scratch0).slice (Rect.unit (s := S5x2x256x256) ![s.val, h.val, 0, 0] S1x1x256x256.size (inb5 s h)) (fun _ => rfl)
  | .clo s h => (Memref.whole cc0_scratch1).slice (Rect.unit (s := S4x2x256x256) ![s.val, h.val, 0, 0] S1x1x256x256.size (inb4 s h)) (fun _ => rfl)
  | .cra s h => (Memref.whole cc0_scratch2).slice (Rect.unit (s := S5x2x256x256) ![s.val, h.val, 0, 0] S1x1x256x256.size (inb5 s h)) (fun _ => rfl)
  | .cla s h => (Memref.whole cc0_scratch3).slice (Rect.unit (s := S4x2x256x256) ![s.val, h.val, 0, 0] S1x1x256x256.size (inb4 s h)) (fun _ => rfl)
/-- A slot as the transfers address it. -/
def Slot.mem (sl : Slot) : Memref sig .tc .vmem S256x256 .i8 := sl.box.squeeze S256x256 squeezes_S1x1x256x256_S256x256

theorem inbA (h : Fin 2) : ∀ a, ![h.val] a + S1.size a ≤ S2.size a := by revert h; decide
theorem inbR (s : Fin 4) (h : Fin 2) : ∀ a, ![s.val, h.val] a + S1x1.size a ≤ S4x2.size a := by revert s h; decide
theorem inbL (s : Fin 3) (h : Fin 2) : ∀ a, ![s.val, h.val] a + S1x1.size a ≤ S3x2.size a := by revert s h; decide

/-- The semaphore a transfer's departure is counted on, at the sender. -/
def Tr.snd : Tr → DmaSem sig
  | .a h => ((cc0_scratch4.slice (Rect.unit (s := S2) ![h.val] S1.size (inbA h))).squeeze S_ squeezes_S1_S_).sem
  | .ro s h => ((cc0_scratch6.slice (Rect.unit (s := S4x2) ![s.val, h.val] S1x1.size (inbR s h))).squeeze S_ squeezes_S1x1_S_).sem
  | .lo s h => ((cc0_scratch8.slice (Rect.unit (s := S3x2) ![s.val, h.val] S1x1.size (inbL s h))).squeeze S_ squeezes_S1x1_S_).sem
  | .ra s h => ((cc0_scratch10.slice (Rect.unit (s := S4x2) ![s.val, h.val] S1x1.size (inbR s h))).squeeze S_ squeezes_S1x1_S_).sem
  | .la s h => ((cc0_scratch12.slice (Rect.unit (s := S3x2) ![s.val, h.val] S1x1.size (inbL s h))).squeeze S_ squeezes_S1x1_S_).sem
/-- The semaphore its landing is counted on, at the receiver. -/
def Tr.rcv : Tr → DmaSem sig
  | .a h => ((cc0_scratch5.slice (Rect.unit (s := S2) ![h.val] S1.size (inbA h))).squeeze S_ squeezes_S1_S_).sem
  | .ro s h => ((cc0_scratch7.slice (Rect.unit (s := S4x2) ![s.val, h.val] S1x1.size (inbR s h))).squeeze S_ squeezes_S1x1_S_).sem
  | .lo s h => ((cc0_scratch9.slice (Rect.unit (s := S3x2) ![s.val, h.val] S1x1.size (inbL s h))).squeeze S_ squeezes_S1x1_S_).sem
  | .ra s h => ((cc0_scratch11.slice (Rect.unit (s := S4x2) ![s.val, h.val] S1x1.size (inbR s h))).squeeze S_ squeezes_S1x1_S_).sem
  | .la s h => ((cc0_scratch13.slice (Rect.unit (s := S3x2) ![s.val, h.val] S1x1.size (inbL s h))).squeeze S_ squeezes_S1x1_S_).sem

/-- The runtime's barrier semaphore. -/
abbrev barS : Sem sig := (SemArray.scalar (sig.barrier 0 rfl) : Sems sig S_).sem

/-- A device's semaphores of the protocol: the barrier, each transfer's departure, each transfer's landing. -/
abbrev Key : Type := Unit ⊕ (Tr ⊕ Tr)
/-- The transfer semaphores alone. -/
def xsem : Tr ⊕ Tr → DmaSem sig
  | .inl t => t.snd
  | .inr t => t.rcv
def ksem : Key → SemLoc sig
  | .inl _ => .reg barS
  | .inr k => .dma (xsem k)

theorem xsem_val : ∀ k : Tr ⊕ Tr, (xsem k).val = (match k with
    | .inl (.a h) => 3 + h.val | .inr (.a h) => 5 + h.val
    | .inl (.ro s h) => 7 + 2 * s.val + h.val | .inr (.ro s h) => 15 + 2 * s.val + h.val
    | .inl (.lo s h) => 23 + 2 * s.val + h.val | .inr (.lo s h) => 29 + 2 * s.val + h.val
    | .inl (.ra s h) => 35 + 2 * s.val + h.val | .inr (.ra s h) => 43 + 2 * s.val + h.val
    | .inl (.la s h) => 51 + 2 * s.val + h.val | .inr (.la s h) => 57 + 2 * s.val + h.val) := by decide +kernel

theorem xsem_inj : Function.Injective xsem := by decide +kernel

open Classical in
/-- Which departure or landing a transfer semaphore counts. -/
noncomputable def xkey (q : DmaSem sig) : Option (Tr ⊕ Tr) := if h : ∃ k, xsem k = q then some h.choose else none

theorem xkey_xsem (k : Tr ⊕ Tr) : xkey (xsem k) = some k := by
  have h : ∃ k', xsem k' = xsem k := ⟨k, rfl⟩
  unfold xkey; rw [dif_pos h, xsem_inj h.choose_spec]

end Cert.Gather

end
-- ==== Proof.Sched.lean ====
/-
# The protocol: who holds what, who pays whom, who waits for what

Every semaphore of the kernel is a cell with one round. A device's barrier cell is paid one unit by each of its three
neighbours; with its unit a neighbour hands over the slots it is to receive into from this device. A transfer's
departure cell (at the sender) hands back the third of the source slot the transfer borrowed; its landing cell (at
the receiver) hands over the filled slot. `State` is what a device holds before step `n` of the timetable.
-/
module

public import proofs.«01_k».proof.Proof.Ring
public import proofs.«01_k».proof.Proof.Gen.KernelIdeal.Frame
public import Idealize.ShloMosaic.Lib.Pipeline.Launch
public import Idealize.ShloMosaic.Lib.Pipeline.Kit
public import Idealize.ShloMosaic.Lib.Writes
public import Idealize.ShloMosaic.Lib.Ring.FamCut
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resources: the pipeline's and the protocol's -/

abbrev UG : Type := URounds (GSem nD τ sig) (Fin 3)
abbrev UU : Type := UR sig nD τ × UG

local notation "𝕄" => MT nD τ sig Unit (Elt F) ℕ UU ℕ

abbrev EP : Emb (UR sig nD τ) (MT nD τ sig Unit (Elt F) ℕ UU ℕ) := embL
abbrev ER : Emb UG (MT nD τ sig Unit (Elt F) ℕ UU ℕ) := embR

abbrev 𝒱₀ : Variants := Variants.none

variable (m : (ℓ : Loc nD τ sig) → Buf (Elt F) ℓ)

/-! ## The cells -/

abbrev barCell (c : Dev nD) : GSem nD τ sig := ((c : Thread nD τ), .reg barS)
abbrev sndCell (c : Dev nD) (t : Tr) : GSem nD τ sig := ((c : Thread nD τ), .dma t.snd)
abbrev rcvCell (c : Dev nD) (t : Tr) : GSem nD τ sig := ((c : Thread nD τ), .dma t.rcv)
abbrev kcell (ck : Dev nD × Key) : GSem nD τ sig := ((ck.1 : Thread nD τ), ksem ck.2)

/-- What one transfer counts: the credit of a slot. -/
def N : ℕ := (Slot.cro 0 0).mem.view.dmaCredit
theorem N_pos : 0 < N := View.dmaCredit_pos _ (by decide)
theorem credit_eq (sl : Slot) : sl.mem.view.dmaCredit = N := by cases sl <;> rfl

/-! ## Contents -/

/-- Device `c`'s blocks of the two operands, as its staging buffers hold them. -/
def aBlk (c : Dev nD) : Vec F S512x256 .bf16 := iblk m c 0 t0_0
def bBlk (c : Dev nD) : Vec F S256x512 .bf16 := iblk m c 1 t0_0

/-- Half `h` of device `d`'s block of `A` as int8: what travels. -/
def quant (d : Dev nD) (h : Fin 2) : Vec F S1x1x256x256 .i8 := if h = 0 then k0_pay3 (aBlk m d) else k0_pay5 (aBlk m d)
/-- What device `c` keeps in a slot once it is filled. -/
def val (c : Dev nD) (sl : Slot) : Vec F S1x1x256x256 .i8 := quant m (sl.org c) sl.half
/-- `B` scaled by the dequantisation factor, and a slot's product with it. -/
def scaled (c : Dev nD) : FVec F S256x512 .bf16 := k0_pay1 (bBlk m c)
def prodOf (c : Dev nD) (sl : Slot) : FVec F S256x512 .bf16 := k0_pay7 (scaled m c) (val m c sl)

/-- A row of the result inside its 256-row block. -/
def inBlk (i : S8192x512.Idx) : S256x512.Idx := fun a => ⟨(![(i 0).val % 256, (i 1).val] : Fin 2 → ℕ) a, by
  fin_cases a
  · exact Nat.mod_lt _ (by decide)
  · exact (i 1).isLt⟩
/-- The device and the half a row of the result comes from. -/
def rowDev (i : S8192x512.Idx) : Dev nD := ⟨(i 0).val / 512, by have h : (i 0).val < 8192 := (i 0).isLt; change _ < 16; omega⟩
def rowHalf (i : S8192x512.Idx) : Fin 2 := ⟨(i 0).val % 512 / 256, by omega⟩
/-- The whole result on device `c`, element by element. -/
def outOf (c : Dev nD) : Vec F S8192x512 .bf16 := fun i => k0_pay7 (scaled m c) (quant m (rowDev i) (rowHalf i)) (inBlk i)

/-! ## Holding a slot -/

/-- Thirds of a full share. -/
def third : Fin 3 → PosShare TreeShare := ![fullShare.left, fullShare.right.left, fullShare.right.right]

/-- Share `q` of device `c`'s slot, reading `X`. -/
def held (c : Dev nD) (sl : Slot) (q : PosShare TreeShare) (X : Vec F S1x1x256x256 .i8) : sProp 𝕄 :=
  iprop(∃ f : Buf (Elt F) (sl.box.view.loc (c : Thread nD τ)), ⌜sl.box.view.read (Elt F) f = X⌝
    ∗ (sl.box.view.loc (c : Thread nD τ) ↦[sl.box.view.set]{q} f))
/-- The slot, whole, at some contents. -/
def vacant (c : Dev nD) (sl : Slot) : sProp 𝕄 :=
  iprop(∃ f : Buf (Elt F) (sl.box.view.loc (c : Thread nD τ)), (sl.box.view.loc (c : Thread nD τ) ↦[sl.box.view.set]{fullShare} f))

omit [FloatOps F] [Named F] in
instance held_storable (c : Dev nD) (sl : Slot) (q) (X) : BI.Storable (upEmb : UEmb _ 𝕄) (held (F := F) c sl q X) := by unfold held; infer_instance
omit [FloatOps F] [Named F] in
instance vacant_storable (c : Dev nD) (sl : Slot) : BI.Storable (upEmb : UEmb _ 𝕄) (vacant (F := F) c sl) := by unfold vacant; infer_instance

omit [FloatOps F] [Named F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] [Named F] in
theorem held_vacant (c : Dev nD) (sl : Slot) (X) : held (F := F) c sl fullShare X ⊢ vacant c sl := by
  unfold held vacant
  iintro ⟨%f, %h, H⟩
  iexists f; iexact H

omit [FloatOps F] [Named F] in
/-- A whole slot is its three thirds; -/
theorem held_thirds (c : Dev nD) (sl : Slot) (X) :
    held (F := F) c sl fullShare X ⊢ bigSep Finset.univ fun p : Fin 3 => held c sl (third p) X := by
  rw [bigSep_three]
  unfold held
  iintro ⟨%f, %h, H⟩
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]
  · iexists f; isplitr; · (ipureintro; exact h)
    iexact H0
  isplitl [H1]
  · iexists f; isplitr; · (ipureintro; exact h)
    iexact H1
  · iexists f; isplitr; · (ipureintro; exact h)
    iexact H2

omit [FloatOps F] [Named F] in
/-- Two shares of one slot agree, so they are one share of it. -/
theorem held_join {q q₁ q₂ : PosShare TreeShare} (hq : q ∈ PCS.op q₁ q₂) (c : Dev nD) (sl : Slot) (X) :
    iprop(held (F := F) c sl q₁ X ∗ held c sl q₂ X) ⊢ held c sl q X := by
  unfold held
  iintro ⟨⟨%f, %h, H1⟩, ⟨%g, -, H2⟩⟩
  ihave %He := pointsTo_agree $$ [H1 H2]
  · isplitl [H1] <;> iassumption
  ihave H2 := (Entails.of_eq (pointsTo_congr fun i hi => (He i (Finset.mem_inter.mpr ⟨hi, hi⟩)).1.symm)) $$ H2
  iexists f
  isplitr; · (ipureintro; exact h)
  iapply (pointsTo_share hq).2
  isplitl [H1] <;> iassumption

omit [FloatOps F] [Named F] in
/-- and the three thirds are the whole slot. -/
theorem thirds_held (c : Dev nD) (sl : Slot) (X) :
    (bigSep Finset.univ fun p : Fin 3 => held (F := F) c sl (third p) X) ⊢ held c sl fullShare X := by
  rw [bigSep_three]
  iintro ⟨H0, H1, H2⟩
  iapply (held_join (PosShare.mem_left_op_right fullShare) c sl X)
  isplitl [H0]; · iexact H0
  iapply (held_join (PosShare.mem_left_op_right fullShare.right) c sl X)
  isplitl [H1]; · iexact H1
  iexact H2

omit [FloatOps F] [Named F] in
/-- What a transfer writes at its target reads as the source did. -/
theorem read_moved (s d : Slot) (c c' : Dev nD) (fs : Buf (Elt F) (s.box.view.loc (c : Thread nD τ))) (fd : Buf (Elt F) (d.box.view.loc (c' : Thread nD τ))) :
    d.box.view.read (Elt F) (d.mem.view.write (Elt F) fd (s.mem.view.read (Elt F) fs) Finset.univ) = s.box.view.read (Elt F) fs := by
  have hn : S256x256.numel = S1x1x256x256.numel := by decide
  refine (congrArg (d.box.view.read (Elt F)) (View.write_reshape_univ (v := d.box.view) hn fd (s.mem.view.read (Elt F) fs))).trans ?_
  rw [View.read_write_univ]
  funext x
  show (s.box.view.reshape S256x256 hn).read (Elt F) fs ((Shape.reshapeEquiv hn).symm x) = s.box.view.read (Elt F) fs x
  rw [View.read_apply, View.read_apply]
  simp

omit [FloatOps F] [Named F] in
theorem mem_set (sl : Slot) : sl.mem.view.set = sl.box.view.set := View.set_reshape (v := sl.box.view) _

/-! ## The schedule -/

/-- What the barrier duty `d` of device `c` hands over: the slots, on the neighbour in direction `d`, that `c`'s transfers write. -/
def barPay (c : Dev nD) (d : Fin 3) : sProp 𝕄 :=
  bigSep Finset.univ fun t : Tr => if t.dir = d then vacant (t.to c) t.dst else iprop(emp)
def sndPay (c : Dev nD) (t : Tr) : sProp 𝕄 := held c t.src (third t.piece) (val m c t.src)
def rcvPay (c : Dev nD) (t : Tr) : sProp 𝕄 := held c t.dst fullShare (val m c t.dst)

omit [FloatOps F] [Named F] in
instance barPay_storable (c : Dev nD) (d : Fin 3) : BI.Storable (upEmb : UEmb _ 𝕄) (barPay (F := F) c d) := by
  unfold barPay
  have (t : Tr) : BI.Storable (upEmb : UEmb _ 𝕄) (if t.dir = d then vacant (F := F) (t.to c) t.dst else iprop(emp)) := by split <;> infer_instance
  infer_instance

/-- One round: a barrier cell has three duties of one unit, a transfer cell one duty of a slot's credit. -/
def Rd : Rounds.Schedule (GSem nD τ sig) (Fin 3) 𝕄 where
  duties g r := if r = 0 ∧ g.1.2 = .tc then (match g.2 with
    | .reg s => if s = barS then Finset.univ else ∅
    | .dma q => if (xkey q).isSome then {0} else ∅) else ∅
  unitless _ := False
  amount g _ _ := match g.2 with | .reg _ => 1 | .dma _ => N
  payload g _ d := match g.2 with
    | .reg _ => barPay g.1.1 d
    | .dma q => match xkey q with
      | some (.inl t) => sndPay m g.1.1 t
      | some (.inr t) => rcvPay m g.1.1 t
      | none => iprop(emp)
  amount_pos g _ _ _ := by
    split
    · exact Nat.one_pos
    · exact N_pos

instance Rd_payload_storable (g : GSem nD τ sig) (r : ℕ) (d : Fin 3) : BI.Storable (upEmb : UEmb _ 𝕄) ((Rd (F := F) m).payload g r d) := by
  dsimp only [Rd]
  unfold sndPay rcvPay
  (repeat' split) <;> infer_instance

theorem xkey_snd (t : Tr) : xkey t.snd = some (.inl t) := xkey_xsem (.inl t)
theorem xkey_rcv (t : Tr) : xkey t.rcv = some (.inr t) := xkey_xsem (.inr t)

section Facts
variable (c : Dev nD) (t : Tr)

theorem duties_bar : (Rd (F := F) m).duties (barCell c) 0 = Finset.univ := by
  dsimp only [Rd]; rw [if_pos ⟨rfl, rfl⟩]; exact if_pos rfl
theorem duties_snd : (Rd (F := F) m).duties (sndCell c t) 0 = {0} := by
  dsimp only [Rd]; rw [if_pos ⟨rfl, rfl⟩]; rw [xkey_snd]; rfl
theorem duties_rcv : (Rd (F := F) m).duties (rcvCell c t) 0 = {0} := by
  dsimp only [Rd]; rw [if_pos ⟨rfl, rfl⟩]; rw [xkey_rcv]; rfl
theorem duties_later (g : GSem nD τ sig) : ∀ r, 1 ≤ r → (Rd (F := F) m).duties g r = ∅ :=
  fun r hr => by dsimp only [Rd]; rw [if_neg fun h => by omega]
theorem expect_bar : (Rd (F := F) m).expect (barCell c) 0 = 3 := by
  unfold Schedule.expect Schedule.amountOf; rw [duties_bar]; rfl
theorem expect_snd : (Rd (F := F) m).expect (sndCell c t) 0 = N := by
  unfold Schedule.expect Schedule.amountOf; rw [duties_snd, Finset.sum_singleton]; rfl
theorem expect_rcv : (Rd (F := F) m).expect (rcvCell c t) 0 = N := by
  unfold Schedule.expect Schedule.amountOf; rw [duties_rcv, Finset.sum_singleton]; rfl
theorem payload_bar (d : Fin 3) : (Rd (F := F) m).payload (barCell c) 0 d = barPay c d := rfl
theorem payload_snd : (Rd (F := F) m).payload (sndCell c t) 0 0 = sndPay m c t := by dsimp only [Rd]; rw [xkey_snd]
theorem payload_rcv : (Rd (F := F) m).payload (rcvCell c t) 0 0 = rcvPay m c t := by dsimp only [Rd]; rw [xkey_rcv]

/-- All a barrier round hands over: every slot the device's transfers write. -/
theorem rest_bar : bigSep ((Rd (F := F) m).duties (barCell c) 0 \ ∅) (fun d => (Rd (F := F) m).payload (barCell c) 0 d)
    ⊢ bigSep Finset.univ fun t : Tr => vacant (F := F) (t.to c) t.dst := by
  rw [Finset.sdiff_empty, duties_bar, bigSep_congr fun d _ => payload_bar m c d]
  unfold barPay
  rw [bigSep_univ_comm]
  refine bigSep_mono fun t _ => (bigSep_elim (Finset.mem_univ t.dir)).trans ?_
  rw [if_pos rfl]; exact BI.Entails.refl _
theorem rest_snd : bigSep ((Rd (F := F) m).duties (sndCell c t) 0 \ ∅) (fun d => (Rd (F := F) m).payload (sndCell c t) 0 d) = sndPay m c t := by
  rw [Finset.sdiff_empty, duties_snd, bigSep_singleton, payload_snd]
theorem rest_rcv : bigSep ((Rd (F := F) m).duties (rcvCell c t) 0 \ ∅) (fun d => (Rd (F := F) m).payload (rcvCell c t) 0 d) = rcvPay m c t := by
  rw [Finset.sdiff_empty, duties_rcv, bigSep_singleton, payload_rcv]

end Facts

/-! ## What a device owes, and the order of waits -/

/-- Before step `n` the device owes the landing of every transfer it has not started. -/
def owedX (c : Dev nD) (n : ℕ) : CellTallies nD τ sig Unit :=
  ∑ t : Tr, if n ≤ t.sentAt then tallyAt (rcvCell (t.to c) t) () N else 0
/-- Before its last signal, its last two, all three, it owes those and each neighbour's barrier a unit. -/
def owedB1 (c : Dev nD) : CellTallies nD τ sig Unit := owedX c 0 + tallyAt (barCell (nbr 2 c)) () 1
def owedB2 (c : Dev nD) : CellTallies nD τ sig Unit := owedB1 c + tallyAt (barCell (nbr 0 c)) () 1
def owedB3 (c : Dev nD) : CellTallies nD τ sig Unit := owedB2 c + tallyAt (barCell (nbr 1 c)) () 1

def L (g : GSem nD τ sig) : Finset Unit := if g.1.2 = .tc then {()} else ∅
/-- A cell's place: departures and staging first, then the barrier, then the landings hop by hop. -/
def place (sm : SemLoc sig) : ℕ := match sm with
  | .reg _ => 1
  | .dma q => match xkey q with | some (.inr t) => t.lev | _ => 0
def lv (g : GSem nD τ sig) (_ : Unit) : ℕ := place g.2

theorem L_of_ne (g : GSem nD τ sig) (h : g.1.2 ≠ .tc) : L g = ∅ := if_neg h
theorem L_tc (c : Dev nD) (sm : SemLoc sig) : L ((c : Thread nD τ), sm) = {()} := if_pos rfl
theorem place_snd (t : Tr) : place (.dma t.snd) = 0 := by dsimp only [place]; rw [xkey_snd]
theorem place_rcv (t : Tr) : place (.dma t.rcv) = t.lev := by dsimp only [place]; rw [xkey_rcv]

theorem owedX_pos {c : Dev nD} {n : ℕ} {g : GSem nD τ sig} {u : Unit} (h : 0 < owedX c n g u) :
    ∃ t : Tr, n ≤ t.sentAt ∧ g = rcvCell (t.to c) t := by
  by_contra hn
  have h0 : owedX c n g u = 0 := by
    unfold owedX
    rw [Finset.sum_apply, Finsupp.finset_sum_apply]
    refine Finset.sum_eq_zero fun t _ => ?_
    split
    · next ht => rw [tallyAt_apply, if_neg fun h' => hn ⟨t, ht, h'.1⟩]
    · rfl
  omega

theorem add_pos_or {A B : CellTallies nD τ sig Unit} {g : GSem nD τ sig} {u : Unit} (h : 0 < (A + B) g u) : 0 < A g u ∨ 0 < B g u := by
  rw [Pi.add_apply, Finsupp.add_apply] at h; omega

theorem owedB_pos {c : Dev nD} {g : GSem nD τ sig} {u : Unit} (h : 0 < owedB3 c g u) :
    (∃ t : Tr, g = rcvCell (t.to c) t) ∨ ∃ d, g = barCell (nbr d c) := by
  have hB (d : Fin 3) (h : 0 < (tallyAt (barCell (nbr d c)) () 1 : CellTallies nD τ sig Unit) g u) :
      (∃ t : Tr, g = rcvCell (t.to c) t) ∨ ∃ d, g = barCell (nbr d c) := .inr ⟨d, (Pipeline.tallyAt_pos h).1⟩
  unfold owedB3 at h
  rcases add_pos_or h with h | h
  · unfold owedB2 at h
    rcases add_pos_or h with h | h
    · unfold owedB1 at h
      rcases add_pos_or h with h | h
      · obtain ⟨t, -, ht⟩ := owedX_pos h
        exact .inl ⟨t, ht⟩
      · exact hB 2 h
    · exact hB 0 h
  · exact hB 1 h

/-- A device may wait on a semaphore placed below every landing it still owes. -/
theorem mayWait (c : Dev nD) (sm : SemLoc sig) (n : ℕ) (h : ∀ t : Tr, n ≤ t.sentAt → place sm < t.lev) :
    (levAts L lv : sProp 𝕄) ⊢ MayWait (c : Thread nD τ) sm () (owedX c n) :=
  MayOwe.of_cut (L := L) (lev := lv) (place sm) (fun p hp => by rw [Finset.mem_singleton.mp hp, L_tc]; exact Finset.mem_singleton_self _)
    (fun g u hg => by obtain ⟨t, -, rfl⟩ := owedX_pos hg; rw [L_tc]; exact Finset.mem_singleton_self _)
    (fun p hp => by rw [Finset.mem_singleton.mp hp]; exact le_rfl)
    (fun g u hg => by obtain ⟨t, ht, rfl⟩ := owedX_pos hg; show _ < place (.dma t.rcv); rw [place_rcv]; exact h t ht)

/-- The staging semaphores come before everything. -/
theorem mayWait_stage (c : Dev nD) (q : DmaSem sig) (hq : xkey q = none) (O : CellTallies nD τ sig Unit) (hO : O = owedB3 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos hg with ⟨t, rfl⟩ | ⟨d, rfl⟩ <;> (rw [L_tc]; exact Finset.mem_singleton_self _))
      (fun p hp => by rw [Finset.mem_singleton.mp hp]; show place (.dma q) ≤ 0; dsimp only [place]; rw [hq])
      (fun g u hg => by
        rcases owedB_pos hg with ⟨t, rfl⟩ | ⟨d, rfl⟩
        · show 0 < place (.dma t.rcv); rw [place_rcv]; exact lev_back t
        · exact Nat.one_pos)
  · rw [MayWait_zero]; iintro -; iempintro

/-- Starting a transfer pays its landing. -/
theorem owedX_send (c : Dev nD) (t : Tr) : owedX c t.sentAt = owedX c (t.sentAt + 1) + tallyAt (rcvCell (t.to c) t) () N := by
  unfold owedX
  rw [← Finset.add_sum_erase Finset.univ _ (Finset.mem_univ t), ← Finset.add_sum_erase (a := t) Finset.univ _ (Finset.mem_univ t), if_pos le_rfl,
    if_neg (by omega), zero_add, add_comm]
  congr 1
  refine Finset.sum_congr rfl fun t' h => ?_
  have := sent_ne t t' (Finset.ne_of_mem_erase h)
  by_cases h' : t.sentAt ≤ t'.sentAt
  · rw [if_pos h', if_pos (by omega)]
  · rw [if_neg h', if_neg (by omega)]

theorem owedX_succ (c : Dev nD) (n : ℕ) (h : ∀ t : Tr, t.sentAt ≠ n) : owedX c n = owedX c (n + 1) := by
  unfold owedX
  refine Finset.sum_congr rfl fun t _ => ?_
  have := h t
  by_cases h' : n ≤ t.sentAt
  · rw [if_pos h', if_pos (by omega)]
  · rw [if_neg h', if_neg (by omega)]

theorem owedX_end (c : Dev nD) : owedX c 122 = 0 := by
  unfold owedX
  refine Finset.sum_eq_zero fun t _ => if_neg ?_
  revert t; decide +kernel

/-! ## What a device holds before step `n` -/

/-- The invariants of all cells, and that each is at its round: known to everyone. -/
def records (K : Dev nD × Key → ℕ) : sProp 𝕄 :=
  iprop((bigSep Finset.univ fun ck : Dev nD × Key => cellInv ER (Rd (F := F) m) (K ck) (kcell ck))
    ∗ bigSep Finset.univ fun ck : Dev nD × Key => reached ER (kcell ck) 0)

instance records_persistent (K : Dev nD × Key → ℕ) : BI.Persistent (records (F := F) m K) := by unfold records; infer_instance

theorem inv_at (K : Dev nD × Key → ℕ) (ck : Dev nD × Key) : records (F := F) m K ⊢ cellInv ER (Rd (F := F) m) (K ck) (kcell ck) := by
  unfold records; exact sep_elim_left.trans (bigSep_elim (Finset.mem_univ ck))
theorem reached_at (K : Dev nD × Key → ℕ) (ck : Dev nD × Key) : records (F := F) m K ⊢ reached ER (kcell ck) 0 := by
  unfold records; exact sep_elim_right.trans (bigSep_elim (Finset.mem_univ ck))

/-- An outgoing transfer: not started, in flight, done. -/
def txAt (c : Dev nD) (n : ℕ) (t : Tr) : sProp 𝕄 :=
  if n ≤ t.sentAt then iprop(dutyTok ER (sndCell c t) 0 0 ∗ dutyTok ER (rcvCell (t.to c) t) 0 0 ∗ atPos ER (sndCell c t) 0 ∅ 0 ∗ vacant (F := F) (t.to c) t.dst)
  else if n ≤ t.backAt then iprop(atPos ER (sndCell c t) 0 ∅ 0 ∗ cred (tallyAt (sndCell c t) () N))
  else semVal (sndCell c t) 0
/-- An incoming transfer: expected, or arrived. -/
def rxAt (c : Dev nD) (n : ℕ) (t : Tr) : sProp 𝕄 :=
  if n ≤ t.landAt then iprop(atPos ER (rcvCell c t) 0 ∅ 0 ∗ cred (tallyAt (rcvCell c t) () N)) else semVal (rcvCell c t) 0
/-- A slot's thirds that are here. -/
def slotAt (c : Dev nD) (n : ℕ) (sl : Slot) : sProp 𝕄 :=
  bigSep Finset.univ fun p : Fin 3 => if av sl p n = true then held c sl (third p) (val m c sl) else iprop(emp)

/-- The rows of the result a slot's product makes. -/
def rowsOf (c : Dev nD) (sl : Slot) (i : S8192x512.Idx) : Prop := rowDev i = sl.org c ∧ rowHalf i = sl.half
/-- The rows made before step `n` hold the result. -/
def Made (c : Dev nD) (n : ℕ) (f : Vec F S8192x512 .bf16) : Prop :=
  ∀ i, (∃ sl : Slot, sl.used = true ∧ sl.storeAt < n ∧ rowsOf c sl i) → f i = outOf m c i
def outAt (c : Dev nD) (n : ℕ) : sProp 𝕄 :=
  iprop(∃ f : Buf (Elt F) ((c : Thread nD τ).loc cc0_stg2_0), ⌜Made m c n f⌝ ∗ (((c : Thread nD τ).loc cc0_stg2_0) ↦{fullShare} f))

/-- What no step touches: the operands, the two idle slots, the barrier's counter. -/
def still (c : Dev nD) : sProp 𝕄 :=
  iprop((((c : Thread nD τ).loc cc0_stg0_0) ↦{fullShare} aBlk m c) ∗ (((c : Thread nD τ).loc cc0_stg1_0) ↦{fullShare} bBlk m c)
    ∗ vacant (F := F) c (.cla 0 0) ∗ vacant (F := F) c (.cla 0 1) ∗ semVal (barCell c) 0)

def State (K : Dev nD × Key → ℕ) (c : Dev nD) (n : ℕ) : sProp 𝕄 :=
  iprop(records (F := F) m K ∗ levAts L lv ∗ (∃ W, owes (c : Thread nD τ) (owedX c n) W)
    ∗ bigSep Finset.univ (txAt (F := F) c n) ∗ bigSep Finset.univ (rxAt (F := F) c n) ∗ bigSep Finset.univ (slotAt m c n)
    ∗ outAt m c n ∗ still m c)

end Cert.Gather

end
-- ==== Proof.Value.lean ====
/-
# What the two programs compute

At the ideal values both results are, at each index, the sum over the contracted axis of the kept integer times the
scaled element of `B`.
-/
module

public import proofs.«01_k».proof.Proof.Word
public import proofs.«01_k».proof.Proof.Sched
public import proofs.«01_k».proof.Proof.Gen.ReferenceIdeal
public import Idealize.ShloMosaic.Lib.MatmulPlain
public import Idealize.ShloMosaic.Lib.StackMember

@[expose] public section

noncomputable section

namespace Cert.Gather

open Idealize.ShloMosaic
open Idealize.ShloMosaic.ValueIdx
open scoped BigOperators

/-- One element of the product of the kept integers with `B` scaled. -/
def product {M : ℕ} (A : (⟨2, ![M, 256]⟩ : Shape).Idx → EReal) (B : (⟨2, ![256, 512]⟩ : Shape).Idx → EReal) (r : Fin M) (j : Fin 512) : EReal :=
  ∑ k : Fin 256, (((level (A (ix2 r k)) : ℤ) : ℝ) : EReal) * (B (ix2 k j) * ((4 / 127 : ℝ) : EReal))

/-! ## The kernel's -/

section Kernel
open Cert.KernelIdeal Cert.KernelIdeal.Gen

theorem pay1_apply (b : Vec Ideal S256x512 .bf16) (x : S256x512.Idx) : k0_pay1 b x = b x * ((4 / 127 : ℝ) : EReal) := by
  unfold k0_pay1
  rw [shapeCast_self]
  rfl

theorem pay2_apply (a : Vec Ideal S512x256 .bf16) (x : S512x256.Idx) : k0_pay2 a x = Ideal.fptosi 8 (clamped (a x)) := by
  unfold k0_pay2 clamped
  rw [shapeCast_self, ← scale_bf16]
  rfl

/-- Half `h` of the quantised block, at a row of the half. -/
theorem half_apply (a : Vec Ideal S512x256 .bf16) (h : Fin 2) (r : Fin 256) (k : Fin 256) (s : Fin 512) (hs : s.val = 256 * h.val + r.val) :
    shapeCast S256x256 (if h = 0 then k0_pay3 a else k0_pay5 a : Vec Ideal S1x1x256x256 .i8) shapeCasts_S1x1x256x256_S256x256 (ix2 r k)
      = Ideal.fptosi 8 (clamped (a (ix2 s k))) := by
  rw [← pay2_apply]
  obtain rfl | rfl : h = 0 ∨ h = 1 := by omega
  · rw [if_pos rfl]
    unfold k0_pay3
    rw [shapeCast_shapeCast]
    refine extractStridedSlice_apply _ _ _ _ _ fun a => ?_
    fin_cases a
    · exact hs
    · exact (Nat.zero_add _).symm
  · rw [if_neg (by decide)]
    unfold k0_pay5
    rw [shapeCast_shapeCast]
    refine extractStridedSlice_apply _ _ _ _ _ fun a => ?_
    fin_cases a
    · exact hs
    · exact (Nat.zero_add _).symm

theorem kernel_apply (a : Vec Ideal S512x256 .bf16) (b : Vec Ideal S256x512 .bf16) (h : Fin 2) (r : Fin 256) (j : Fin 512) (s : Fin 512)
    (hs : s.val = 256 * h.val + r.val) :
    k0_pay7 (k0_pay1 b) (if h = 0 then k0_pay3 a else k0_pay5 a) (ix2 r j) = product a b s j := by
  unfold k0_pay7 product
  refine (Ideal.matmul_plain_apply (M := 256) (K := 256) (N := 512) (φ₁ := .bf16) (φ₂ := .bf16) none _ _ _ r j).trans ?_
  refine (congrArg (· + _) Ideal.ofBits_zero_f32).trans ((zero_add _).trans (Finset.sum_congr rfl fun k _ => ?_))
  rw [pay1_apply]
  exact congrArg (fun w : BitVec 8 => (((w.toInt : ℤ) : ℝ) : EReal) * _) (half_apply a h r k s hs)

end Kernel

/-! ## The reference's -/

section Reference
open Cert.ReferenceIdeal Cert.ReferenceIdeal.Gen

/-- What the reference leaves in its result. -/
def refOut (A : FVec Ideal S8192x256 .bf16) (B : FVec Ideal S256x512 .bf16) : FVec Ideal S8192x512 .bf16 :=
  truncf .bf16 (Host.dotGeneral dot_S8192x256_S256x512_S8192x512_1_0_0_1_n_n none (Host.divf (sitofp .f32 (extsi 32 (trunci 8 (fptosi 32
    (minimumf (broadcastInDim S8192x256 ![] bcast_S_S8192x256 (id (constant S_ .f32 0x42FE0000#32))) (maximumf (broadcastInDim S8192x256 ![] bcast_S_S8192x256
      (id (constant S_ .f32 0xC2FE0000#32))) (Host.roundeven (mulf (extf .f32 A bitsLt_bf16_f32) (broadcastInDim S8192x256 ![] bcast_S_S8192x256
        (constant S_ .f32 0x41FE0000#32))))))) natLt_8_32) natLt_8_32)) (broadcastInDim S8192x256 ![] bcast_S_S8192x256 (constant S_ .f32 0x41FE0000#32)))
    (extf .f32 B bitsLt_bf16_f32)) bitsLt_bf16_f32

theorem refOut_apply (A : FVec Ideal S8192x256 .bf16) (B : FVec Ideal S256x512 .bf16) (r : Fin 8192) (j : Fin 512) :
    refOut A B (ix2 r j) = product A B r j := by
  unfold refOut product
  refine (StackMember.dotGeneral_plain_apply (m := 8192) (k := 256) (n := 512) (φ₁ := .f32) (φ₂ := .f32) none _ _ r j).trans
    (Finset.sum_congr rfl fun k _ => ?_)
  rw [descale, ← level_wide]
  unfold clamped
  rw [← scale_f32]
  rfl

end Reference

end Cert.Gather

end
-- ==== Proof.Steps.lean ====
/-
# One lemma per kind of step

The body's text is a chain of operations: starting a transfer, awaiting a landing, awaiting a source back, loading a
slot, loading rows of the result (whose value is not used), storing a product. Each lemma here carries `State` over
one of them, for any transfer or slot.
-/
module

public import proofs.«01_k».proof.Proof.Sched

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- Device `c` runs `p` to an end in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- One member of a family changed, the rest as it was. -/
theorem bigSep_at {ι : Type} [Fintype ι] [DecidableEq ι] (Φ Ψ : ι → sProp 𝕄) (i : ι) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (fun j hj => h j (Finset.ne_of_mem_erase hj))]
  iintro ⟨H, Hr⟩
  isplitl [H]; · iexact H
  iintro Hn
  isplitl [Hn]; · iexact Hn
  iexact Hr

/-! ## The program's words

The number of the device a transfer goes to and the place a product is stored at, as the program computes them, are what
the ring says. -/

/-- The device number the program computes for a transfer. -/
def Tr.devWord : Tr → Dev nD → ℕ
  | .a h => (![k0_dev4, k0_dev7] : Fin 2 → Dev nD → ℕ) h
  | .ro s h => (![![k0_dev5, k0_dev8], ![k0_dev14, k0_dev15], ![k0_dev22, k0_dev23], ![k0_dev30, k0_dev31]] : Fin 4 → Fin 2 → Dev nD → ℕ) s h
  | .lo s h => (![![k0_dev6, k0_dev9], ![k0_dev16, k0_dev17], ![k0_dev24, k0_dev25]] : Fin 3 → Fin 2 → Dev nD → ℕ) s h
  | .ra s h => (![![k0_dev10, k0_dev12], ![k0_dev18, k0_dev19], ![k0_dev26, k0_dev27], ![k0_dev32, k0_dev33]] : Fin 4 → Fin 2 → Dev nD → ℕ) s h
  | .la s h => (![![k0_dev11, k0_dev13], ![k0_dev20, k0_dev21], ![k0_dev28, k0_dev29]] : Fin 3 → Fin 2 → Dev nD → ℕ) s h
theorem devWord_eq (t : Tr) (c : Dev nD) : t.devWord c = (t.to c).val := by revert t c; decide +kernel

/-- A half's first row, as the program's word. -/
def halfWord : Fin 2 → BitVec 32 := ![0#32, 256#32]
/-- The place the program computes for a slot's product. -/
def Slot.offWord : Slot → Dev nD → Fin 2 → ℕ
  | .cro s h, c => if s = 0 then k0_off1 c (halfWord h) else k0_off3 c (BitVec.ofNat 32 s.val) (halfWord h)
  | .clo s h, c => k0_off2 c (BitVec.ofNat 32 s.val) (halfWord h)
  | .cra s h, c => if s = 0 then k0_off2 c 8#32 (halfWord h) else k0_off4 c (BitVec.ofNat 32 s.val) (halfWord h)
  | .cla s h, c => k0_off5 c (BitVec.ofNat 32 s.val) (halfWord h)
theorem offWord_eq (sl : Slot) (hu : sl.used = true) (c : Dev nD) : sl.offWord c = ![512 * (sl.org c).val + 256 * sl.half.val, 0] := by
  revert sl c; decide +kernel

/-! ## The transfers -/

theorem txAt_succ (c : Dev nD) (n : ℕ) (t : Tr) (h1 : t.sentAt ≠ n) (h2 : t.backAt ≠ n) : txAt (F := F) c n t = txAt c (n + 1) t := by
  have e1 : (n + 1 ≤ t.sentAt) = (n ≤ t.sentAt) := propext (by omega)
  have e2 : (n + 1 ≤ t.backAt) = (n ≤ t.backAt) := propext (by omega)
  simp only [txAt, e1, e2]
theorem rxAt_succ (c : Dev nD) (n : ℕ) (t : Tr) (h : t.landAt ≠ n) : rxAt (F := F) c n t = rxAt c (n + 1) t := by
  unfold rxAt
  by_cases a : n ≤ t.landAt
  · rw [if_pos a, if_pos (by omega)]
  · rw [if_neg a, if_neg (by omega)]

theorem tx_stay (c : Dev nD) (n : ℕ) (h : ∀ t : Tr, t.sentAt ≠ n ∧ t.backAt ≠ n) :
    bigSep Finset.univ (txAt (F := F) c n) = bigSep Finset.univ (txAt c (n + 1)) :=
  bigSep_congr fun t _ => txAt_succ c n t (h t).1 (h t).2
theorem rx_stay (c : Dev nD) (n : ℕ) (h : ∀ t : Tr, t.landAt ≠ n) :
    bigSep Finset.univ (rxAt (F := F) c n) = bigSep Finset.univ (rxAt c (n + 1)) :=
  bigSep_congr fun t _ => rxAt_succ c n t (h t)

theorem tx_send (c : Dev nD) (t : Tr) : bigSep Finset.univ (txAt (F := F) c t.sentAt) ⊢
    iprop((dutyTok ER (sndCell c t) 0 0 ∗ dutyTok ER (rcvCell (t.to c) t) 0 0 ∗ atPos ER (sndCell c t) 0 ∅ 0 ∗ vacant (F := F) (t.to c) t.dst)
      ∗ ((atPos ER (sndCell c t) 0 ∅ 0 ∗ cred (tallyAt (sndCell c t) () N)) -∗ bigSep Finset.univ (txAt c (t.sentAt + 1)))) := by
  have h1 : txAt (F := F) c t.sentAt t = iprop(dutyTok ER (sndCell c t) 0 0 ∗ dutyTok ER (rcvCell (t.to c) t) 0 0 ∗ atPos ER (sndCell c t) 0 ∅ 0 ∗ vacant (F := F) (t.to c) t.dst) := by
    unfold txAt; rw [if_pos le_rfl]
  have h2 : txAt (F := F) c (t.sentAt + 1) t = iprop(atPos ER (sndCell c t) 0 ∅ 0 ∗ cred (tallyAt (sndCell c t) () N)) := by
    unfold txAt; rw [if_neg (by omega), if_pos (Nat.succ_le_of_lt (sent_back t))]
  rw [← h1, ← h2]
  exact bigSep_at _ _ t fun t' h => txAt_succ c _ t' (sent_ne t t' h) fun e => sent_ne_back t' t e.symm
theorem tx_back (c : Dev nD) (t : Tr) : bigSep Finset.univ (txAt (F := F) c t.backAt) ⊢
    iprop((atPos ER (sndCell c t) 0 ∅ 0 ∗ cred (tallyAt (sndCell c t) () N)) ∗ (semVal (sndCell c t) 0 -∗ bigSep Finset.univ (txAt c (t.backAt + 1)))) := by
  have h1 : txAt (F := F) c (t.backAt + 1) t = semVal (sndCell c t) 0 := by
    unfold txAt; rw [if_neg (by have := sent_back t; omega), if_neg (by omega)]
  have h2 : txAt (F := F) c t.backAt t = iprop(atPos ER (sndCell c t) 0 ∅ 0 ∗ cred (tallyAt (sndCell c t) () N)) := by
    unfold txAt; rw [if_neg (by have := sent_back t; omega), if_pos le_rfl]
  rw [← h1, ← h2]
  exact bigSep_at _ _ t fun t' h => txAt_succ c _ t' (sent_ne_back t t') (back_ne t t' h)
theorem rx_land (c : Dev nD) (t : Tr) : bigSep Finset.univ (rxAt (F := F) c t.landAt) ⊢
    iprop((atPos ER (rcvCell c t) 0 ∅ 0 ∗ cred (tallyAt (rcvCell c t) () N)) ∗ (semVal (rcvCell c t) 0 -∗ bigSep Finset.univ (rxAt c (t.landAt + 1)))) := by
  have h1 : rxAt (F := F) c (t.landAt + 1) t = semVal (rcvCell c t) 0 := by unfold rxAt; rw [if_neg (by omega)]
  have h2 : rxAt (F := F) c t.landAt t = iprop(atPos ER (rcvCell c t) 0 ∅ 0 ∗ cred (tallyAt (rcvCell c t) () N)) := by unfold rxAt; rw [if_pos le_rfl]
  rw [← h1, ← h2]
  exact bigSep_at _ _ t fun t' h => rxAt_succ c _ t' (land_ne t t' h)

/-! ## The slots -/

/-- One third of one slot before step `n`. -/
def thirdAt (c : Dev nD) (n : ℕ) (sl : Slot) (p : Fin 3) : sProp 𝕄 :=
  if av sl p n = true then held c sl (third p) (val m c sl) else iprop(emp)

theorem slotAt_eq (c : Dev nD) (n : ℕ) (sl : Slot) : slotAt m c n sl = bigSep Finset.univ (thirdAt m c n sl) := rfl

theorem slots_third (c : Dev nD) (n : ℕ) (sl : Slot) (p : Fin 3) (h : ∀ sl' p', ¬ (sl' = sl ∧ p' = p) → av sl' p' n = av sl' p' (n + 1)) :
    bigSep Finset.univ (slotAt m c n) ⊢ iprop(thirdAt m c n sl p ∗ (thirdAt m c (n + 1) sl p -∗ bigSep Finset.univ (slotAt m c (n + 1)))) := by
  have hs (sl' : Slot) (p' : Fin 3) (hn : ¬ (sl' = sl ∧ p' = p)) : thirdAt m c n sl' p' = thirdAt m c (n + 1) sl' p' := by
    unfold thirdAt; rw [h sl' p' hn]
  have hin : slotAt m c n sl ⊢ iprop(thirdAt m c n sl p ∗ (thirdAt m c (n + 1) sl p -∗ slotAt m c (n + 1) sl)) :=
    bigSep_at (thirdAt m c n sl) (thirdAt m c (n + 1) sl) p fun p' hp => hs sl p' fun e => hp e.2
  refine (bigSep_at (slotAt m c n) (slotAt m c (n + 1)) sl fun sl' hsl => bigSep_congr fun p' _ => hs sl' p' fun e => hsl e.1).trans ?_
  iintro ⟨H, Hr⟩
  ihave H := hin $$ H
  icases H with ⟨H, Hi⟩
  isplitl [H]; · iexact H
  iintro Hn
  iapply Hr
  iapply Hi
  iexact Hn

theorem slots_send (c : Dev nD) (t : Tr) : bigSep Finset.univ (slotAt m c t.sentAt) ⊢
    iprop(held c t.src (third t.piece) (val m c t.src) ∗ bigSep Finset.univ (slotAt m c (t.sentAt + 1))) := by
  have h1 : thirdAt m c t.sentAt t.src t.piece = held c t.src (third t.piece) (val m c t.src) := if_pos (av_send t).1
  have h2 : thirdAt m c (t.sentAt + 1) t.src t.piece = iprop(emp) := if_neg (by rw [(av_send t).2]; decide)
  refine (slots_third m c t.sentAt t.src t.piece fun sl' p' => av_send_ne t sl' p').trans ?_
  rw [h1, h2]
  iintro ⟨H, Hr⟩
  isplitl [H]; · iexact H
  iapply Hr; iempintro

theorem slots_back (c : Dev nD) (t : Tr) : iprop(held c t.src (third t.piece) (val m c t.src) ∗ bigSep Finset.univ (slotAt m c t.backAt)) ⊢
    bigSep Finset.univ (slotAt m c (t.backAt + 1)) := by
  have h2 : thirdAt m c (t.backAt + 1) t.src t.piece = held c t.src (third t.piece) (val m c t.src) := if_pos (av_back t).2
  refine (sep_mono_right (slots_third m c t.backAt t.src t.piece fun sl' p' => av_back_ne t sl' p')).trans ?_
  rw [h2]
  iintro ⟨H, -, Hr⟩
  iapply Hr; iexact H

theorem slots_land (c : Dev nD) (t : Tr) : iprop(held c t.dst fullShare (val m c t.dst) ∗ bigSep Finset.univ (slotAt m c t.landAt)) ⊢
    bigSep Finset.univ (slotAt m c (t.landAt + 1)) := by
  have h2 : slotAt m c (t.landAt + 1) t.dst = bigSep Finset.univ fun p : Fin 3 => held c t.dst (third p) (val m c t.dst) :=
    bigSep_congr fun p _ => if_pos (av_land t p).2
  refine (sep_mono_right (bigSep_at (slotAt m c t.landAt) (slotAt m c (t.landAt + 1)) t.dst fun sl' hsl => bigSep_congr fun p' _ => by
    rw [av_land_ne t sl' p' hsl])).trans ?_
  rw [h2]
  iintro ⟨H, -, Hr⟩
  iapply Hr; iapply (held_thirds c t.dst _); iexact H

theorem slots_look (c : Dev nD) (sl : Slot) (hu : sl.used = true) : bigSep Finset.univ (slotAt m c sl.storeAt) ⊢
    iprop(held c sl (third 2) (val m c sl) ∗ (held c sl (third 2) (val m c sl) -∗ bigSep Finset.univ (slotAt m c sl.storeAt))) := by
  have h1 : thirdAt m c sl.storeAt sl 2 = held c sl (third 2) (val m c sl) := if_pos (av_load sl hu)
  rw [← h1]
  refine (bigSep_at (slotAt m c sl.storeAt) (slotAt m c sl.storeAt) sl fun _ _ => rfl).trans ?_
  have hin : slotAt m c sl.storeAt sl ⊢ iprop(thirdAt m c sl.storeAt sl 2 ∗ (thirdAt m c sl.storeAt sl 2 -∗ slotAt m c sl.storeAt sl)) :=
    bigSep_at (thirdAt m c sl.storeAt sl) (thirdAt m c sl.storeAt sl) 2 fun _ _ => rfl
  iintro ⟨H, Hr⟩
  ihave H := hin $$ H
  icases H with ⟨H, Hi⟩
  isplitl [H]; · iexact H
  iintro Hn
  iapply Hr
  iapply Hi
  iexact Hn

theorem slots_stay (c : Dev nD) (sl : Slot) (hu : sl.used = true) :
    bigSep Finset.univ (slotAt m c sl.storeAt) = bigSep Finset.univ (slotAt m c (sl.storeAt + 1)) :=
  bigSep_congr fun sl' _ => bigSep_congr fun p _ => by rw [av_store sl sl' p hu]

/-! ## The result -/

theorem out_stay (c : Dev nD) (n : ℕ) (h : ∀ sl : Slot, sl.used = true → sl.storeAt ≠ n) : outAt m c n ⊢ outAt m c (n + 1) := by
  unfold outAt
  iintro ⟨%f, %hf, H⟩
  iexists f
  isplitr
  · ipureintro
    rintro i ⟨sl, hu, hs, hr⟩
    exact hf i ⟨sl, hu, by have := h sl hu; omega, hr⟩
  · iexact H

omit [FloatOps F] [Named F] in
/-- A slot's elements, as the loads and as the transfers address them. -/
theorem box_mem (c : Dev nD) (sl : Slot) (q : PosShare TreeShare) (f : Buf (Elt F) (sl.box.view.loc (c : Thread nD τ))) :
    (sl.box.view.loc (c : Thread nD τ) ↦[sl.box.view.set]{q} f : sProp 𝕄) = (sl.mem.view.loc (c : Thread nD τ) ↦[sl.mem.view.set]{q} f) :=
  congrArg (fun S => (sl.box.view.loc (c : Thread nD τ) ↦[S]{q} f : sProp 𝕄)) (mem_set sl).symm

/-! ## The steps -/

section Steps
variable (K : Dev nD × Key → ℕ) (c : Dev nD) {n : ℕ}

/-- A program at its end. -/
theorem ret_step {α : Type} {Q : α → sProp 𝕄} {a : α} (h : State m K c n ⊢ Q a) : State m K c n ⊢ WP c (.ret a) Q := h.trans (fupd_intro (E := Set.univ))

/-- Transfer `t` is started. -/
theorem send_step {α : Type} {Q : α → sProp 𝕄} {k : PUnit → Prog (TpuEff nD τ sig (Elt F) Λ₀ .tc) α} (t : Tr) {dev : Dev nD} {M1 M2 : Memref sig .tc .vmem S256x256 .i8} {s r : DmaSem sig}
    {hsc : (M2 : Memref sig (Dev.tc dev : Thread nD τ).2.kind .vmem S256x256 .i8).view.ref.isScScratch = false}
    {hsrc : M1.view.WordExact} {hdst : M2.view.WordExact}
    {hsem : DmaTarget.Typed .vmem (.dma r) (.remote (Dev.tc dev : Thread nD τ) (M2 : Memref sig .tc .vmem S256x256 .i8) (.dma s) hsc)}
    (hk : State m K c (n + 1) ⊢ WP c (k ⟨⟩) Q)
    (hn : n = t.sentAt := by rfl) (h1 : M1 = t.src.mem := by rfl) (h2 : M2 = t.dst.mem := by rfl) (hs : s = t.snd := by rfl) (hr : r = t.rcv := by rfl)
    (hd : dev.val = t.devWord c := by rfl) :
    State m K c n ⊢ WP c (.op (.enqueueDma M1 (.remote (Dev.tc dev : Thread nD τ) M2 (.dma s) hsc) (.dma r) hsrc hdst hsem) k) Q := by
  obtain rfl : dev = t.to c := Fin.ext (hd.trans (devWord_eq t c))
  subst hn h1 h2 hs hr
  unfold State
  iintro ⟨#HR, #HL, ⟨%W, HO⟩, Htx, Hrx, Hsl, Ho, Hst⟩
  ihave Htx := (tx_send c t) $$ Htx
  icases Htx with ⟨⟨Ht1, Ht2, Hat, Hd⟩, Htx⟩
  ihave Hsl := (slots_send m c t) $$ Hsl
  icases Hsl with ⟨Hs, Hsl⟩
  unfold held vacant
  icases Hs with ⟨%fs, %hfs, Hs⟩
  icases Hd with ⟨%fd, Hd⟩
  ihave #HI1 := (inv_at m K (c, .inr (.inl t))) $$ HR
  ihave #HI2 := (inv_at m K (t.to c, .inr (.inr t))) $$ HR
  ihave #Hr1 := (reached_at m K (c, .inr (.inl t))) $$ HR
  ihave #Hr2 := (reached_at m K (t.to c, .inr (.inr t))) $$ HR
  have hpay1 : (t.src.mem.view.loc (c : Thread nD τ) ↦[t.src.mem.view.set]{third t.piece} fs) ⊢ (Rd m).payload (sndCell c t) 0 0 := by
    rw [payload_snd]; unfold sndPay held
    iintro H
    iexists fs
    isplitr; · (ipureintro; exact hfs)
    iapply (Entails.of_eq (box_mem c t.src (third t.piece) fs).symm)
    iexact H
  have hpay2 : (t.dst.mem.view.loc (t.to c : Thread nD τ) ↦[t.dst.mem.view.set]{fullShare} (t.dst.mem.view.write (Elt F) fd (t.src.mem.view.read (Elt F) fs) Finset.univ))
      ⊢ (Rd m).payload (rcvCell (t.to c) t) 0 0 := by
    rw [payload_rcv]; unfold rcvPay held
    iintro H
    iexists _
    isplitr
    · ipureintro
      exact (read_moved t.src t.dst c (t.to c) fs fd).trans (hfs.trans (by unfold val; rw [org_dst, half_dst]))
    iapply (Entails.of_eq (box_mem (t.to c) t.dst fullShare _).symm)
    iexact H
  ihave Hs := (Entails.of_eq (box_mem c t.src (third t.piece) fs)) $$ Hs
  ihave Hd := (Entails.of_eq (box_mem (t.to c) t.dst fullShare fd)) $$ Hd
  iapply (Rounds.wp_send_pointsTo 𝒱₀ ER (Rd m) (c : Thread nD τ) none (κ₁ := K (c, .inr (.inl t))) (κ₂ := K (t.to c, .inr (.inr t)))
    (c' := (t.to c : Thread nD τ)) (src := t.src.mem) (dst := t.dst.mem) (sS := .dma t.snd) (sem := .dma t.rcv)
    (r₁ := 0) (r₂ := 0) (d₁ := 0) (d₂ := 0) (fs := fs) (fd := fd) (q := third t.piece)
    (by rw [duties_snd]; exact Finset.mem_singleton_self _) (by rw [duties_rcv]; exact Finset.mem_singleton_self _)
    () () N (credit_eq t.dst) rfl rfl (owedX c (t.sentAt + 1)) (owedX_send c t) (W := W) hpay1 hpay2) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  ihave Htx := Htx $$ [Hat Hc]
  · isplitl [Hat] <;> iassumption
  ihave Ho := (out_stay m c t.sentAt fun sl hu => sent_ne_store t sl hu) $$ Ho
  ihave Hrx := (Entails.of_eq (rx_stay c t.sentAt fun t' => fun e => sent_ne_land t' t e.symm)) $$ Hrx
  iapply hk
  unfold State
  isplitr; · iexact HR
  isplitr; · iexact HL
  isplitl [HO]; · iexists W; iexact HO
  isplitl [Htx]; · iexact Htx
  isplitl [Hrx]; · iexact Hrx
  isplitl [Hsl]; · iexact Hsl
  isplitl [Ho]; · iexact Ho
  iexact Hst

/-- The landing of transfer `t` is awaited. -/
theorem land_step {α : Type} {Q : α → sProp 𝕄} {k : PUnit → Prog (TpuEff nD τ sig (Elt F) Λ₀ .tc) α} (t : Tr) {M1 M2 : Memref sig .tc .vmem S256x256 .i8} {r : DmaSem sig}
    {h1 : M1.view.WordExact} {h2 : M2.view.WordExact}
    (hk : State m K c (n + 1) ⊢ WP c (k ⟨⟩) Q)
    (hn : n = t.landAt := by rfl) (hr : r = t.rcv := by rfl) (h2' : M2 = t.dst.mem := by rfl) :
    State m K c n ⊢ WP c (.op (.waitDma2 r M1 M2 h1 h2) k) Q := by
  subst hn h2' hr
  unfold State
  iintro ⟨#HR, #HL, ⟨%W, HO⟩, Htx, Hrx, Hsl, Ho, Hst⟩
  ihave Hrx := (rx_land c t) $$ Hrx
  icases Hrx with ⟨⟨Hat, Hc⟩, Hrx⟩
  ihave #HI := (inv_at m K (c, .inr (.inr t))) $$ HR
  iapply (Rounds.wp_wait_rest_token 𝒱₀ ER (Rd m) (c : Thread nD τ) none (κ := K (c, .inr (.inr t))) (sm := .dma t.rcv)
      (wpE_waitDma2_eq 𝒱₀ (c : Thread nD τ) none Set.univ) (Set.mem_univ _) () (O := owedX c t.landAt) (W := W) (R := 0) (m := 0) (T := ∅)
      ((Nat.zero_add _).trans ((credit_eq t.dst).trans (expect_rcv m c t).symm))) $$ [Hc HO Hat]
  · isplitr; · iexact HI
    isplitl [Hc]; · rw [credit_eq]; iexact Hc
    isplitl [HO]; · iexact HO
    isplitr; · iapply (mayWait c (.dma t.rcv) t.landAt fun t' h => by rw [place_rcv]; exact lev_land t t' h); iexact HL
    iexact Hat
  iintro ⟨HO, Hat, -, Hpay⟩
  ihave Hp := (Entails.of_eq (rest_rcv m c t)) $$ Hpay
  imod (Rounds.cell_close ER (Rd m) (Set.mem_univ (K (c, .inr (.inr t)))) (fun h => h) (R := 0 + 1) (duties_later m (rcvCell c t))) $$ [Hat] with Hz
  · isplitr; · iexact HI
    iexact Hat
  ihave Hrx := Hrx $$ Hz
  unfold rcvPay
  ihave Hsl := (slots_land m c t) $$ [Hp Hsl]
  · isplitl [Hp] <;> iassumption
  ihave Ho := (out_stay m c t.landAt fun sl hu => land_ne_store t sl hu) $$ Ho
  ihave Htx := (Entails.of_eq (tx_stay c t.landAt fun t' => ⟨sent_ne_land t t', fun e => land_ne_back t' t e.symm⟩)) $$ Htx
  iapply hk
  unfold State
  isplitr; · iexact HR
  isplitr; · iexact HL
  isplitl [HO]; · iexists _; rw [← owedX_succ c t.landAt fun t' => sent_ne_land t t']; iexact HO
  isplitl [Htx]; · iexact Htx
  isplitl [Hrx]; · iexact Hrx
  isplitl [Hsl]; · iexact Hsl
  isplitl [Ho]; · iexact Ho
  iexact Hst

/-- The source of transfer `t` is awaited back. -/
theorem back_step {α : Type} {Q : α → sProp 𝕄} {k : PUnit → Prog (TpuEff nD τ sig (Elt F) Λ₀ .tc) α} (t : Tr) {M1 M2 : Memref sig .tc .vmem S256x256 .i8} {r : DmaSem sig}
    {h1 : M1.view.WordExact} {h2 : M2.view.WordExact}
    (hk : State m K c (n + 1) ⊢ WP c (k ⟨⟩) Q)
    (hn : n = t.backAt := by rfl) (hr : r = t.snd := by rfl) (h2' : M2 = t.src.mem := by rfl) :
    State m K c n ⊢ WP c (.op (.waitDma2 r M1 M2 h1 h2) k) Q := by
  subst hn h2' hr
  unfold State
  iintro ⟨#HR, #HL, ⟨%W, HO⟩, Htx, Hrx, Hsl, Ho, Hst⟩
  ihave Htx := (tx_back c t) $$ Htx
  icases Htx with ⟨⟨Hat, Hc⟩, Htx⟩
  ihave #HI := (inv_at m K (c, .inr (.inl t))) $$ HR
  iapply (Rounds.wp_wait_rest_token 𝒱₀ ER (Rd m) (c : Thread nD τ) none (κ := K (c, .inr (.inl t))) (sm := .dma t.snd)
      (wpE_waitDma2_eq 𝒱₀ (c : Thread nD τ) none Set.univ) (Set.mem_univ _) () (O := owedX c t.backAt) (W := W) (R := 0) (m := 0) (T := ∅)
      ((Nat.zero_add _).trans ((credit_eq t.src).trans (expect_snd m c t).symm))) $$ [Hc HO Hat]
  · isplitr; · iexact HI
    isplitl [Hc]; · rw [credit_eq]; iexact Hc
    isplitl [HO]; · iexact HO
    isplitr; · iapply (mayWait c (.dma t.snd) t.backAt fun t' h => by rw [place_snd]; exact lev_back t'); iexact HL
    iexact Hat
  iintro ⟨HO, Hat, -, Hpay⟩
  ihave Hp := (Entails.of_eq (rest_snd m c t)) $$ Hpay
  imod (Rounds.cell_close ER (Rd m) (Set.mem_univ (K (c, .inr (.inl t)))) (fun h => h) (R := 0 + 1) (duties_later m (sndCell c t))) $$ [Hat] with Hz
  · isplitr; · iexact HI
    iexact Hat
  ihave Htx := Htx $$ Hz
  unfold sndPay
  ihave Hsl := (slots_back m c t) $$ [Hp Hsl]
  · isplitl [Hp] <;> iassumption
  ihave Ho := (out_stay m c t.backAt fun sl hu => back_ne_store t sl hu) $$ Ho
  ihave Hrx := (Entails.of_eq (rx_stay c t.backAt fun t' => land_ne_back t t')) $$ Hrx
  iapply hk
  unfold State
  isplitr; · iexact HR
  isplitr; · iexact HL
  isplitl [HO]; · iexists _; rw [← owedX_succ c t.backAt fun t' => sent_ne_back t t']; iexact HO
  isplitl [Htx]; · iexact Htx
  isplitl [Hrx]; · iexact Hrx
  isplitl [Hsl]; · iexact Hsl
  isplitl [Ho]; · iexact Ho
  iexact Hst

/-- A slot's load reads what is held there. -/
theorem load_box {α : Type} {Q : α → sProp 𝕄} {k : Vec F S1x1x256x256 .i8 → Prog (TpuEff nD τ sig (Elt F) Λ₀ .tc) α} {d : Fin 4 → ℕ} {M : Memref sig .tc .vmem ⟨4, d⟩ .i8}
    {off : Fin 4 → ℕ} {inb : ∀ a, off a + S1x1x256x256.size a ≤ (⟨4, d⟩ : Shape).size a}
    {hl : M.view.LoadsAt (Rect.unit (s := ⟨4, d⟩) off S1x1x256x256.size inb).toLoadRect} (box : Memref sig .tc .vmem S1x1x256x256 .i8)
    (hb : M.slice (Rect.unit (s := ⟨4, d⟩) off S1x1x256x256.size inb) (fun _ => rfl) = box) (q : PosShare TreeShare) (f : Buf (Elt F) (box.view.loc (c : Thread nD τ))) :
    (box.view.loc (c : Thread nD τ) ↦[box.view.set]{q} f) ⊢ iprop(((box.view.loc (c : Thread nD τ) ↦[box.view.set]{q} f) -∗ WP c (k (box.view.read (Elt F) f)) Q)
      -∗ WP c (.op (.load M (Rect.unit (s := ⟨4, d⟩) off S1x1x256x256.size inb).toLoadRect hl) k) Q) := by
  subst hb
  exact wp_load_rect 𝒱₀ (c : Thread nD τ) none Set.univ (m := M) (r := Rect.unit (s := ⟨4, d⟩) off S1x1x256x256.size inb) (hl := hl) (k := k) subset_rfl

/-- The slot `sl` is loaded to be multiplied. -/
theorem look_step {α : Type} {Q : α → sProp 𝕄} {k : Vec F S1x1x256x256 .i8 → Prog (TpuEff nD τ sig (Elt F) Λ₀ .tc) α} (sl : Slot) {d : Fin 4 → ℕ} {M : Memref sig .tc .vmem ⟨4, d⟩ .i8}
    {off : Fin 4 → ℕ} {inb : ∀ a, off a + S1x1x256x256.size a ≤ (⟨4, d⟩ : Shape).size a}
    {hl : M.view.LoadsAt (Rect.unit (s := ⟨4, d⟩) off S1x1x256x256.size inb).toLoadRect}
    (hk : State m K c n ⊢ WP c (k (val m c sl)) Q)
    (hu : sl.used = true := by rfl) (hn : n = sl.storeAt := by rfl)
    (hb : M.slice (Rect.unit (s := ⟨4, d⟩) off S1x1x256x256.size inb) (fun _ => rfl) = sl.box := by rfl) :
    State m K c n ⊢ WP c (.op (.load M (Rect.unit (s := ⟨4, d⟩) off S1x1x256x256.size inb).toLoadRect hl) k) Q := by
  subst hn
  unfold State at *
  iintro ⟨#HR, #HL, HO, Htx, Hrx, Hsl, Ho, Hst⟩
  ihave Hsl := (slots_look m c sl hu) $$ Hsl
  icases Hsl with ⟨Hs, Hsl⟩
  unfold held
  icases Hs with ⟨%f, %hf, Hs⟩
  iapply (load_box c sl.box hb (third 2) f) $$ Hs
  iintro Hs
  ihave Hsl := Hsl $$ [Hs]
  · iexists f
    isplitr; · (ipureintro; exact hf)
    iexact Hs
  rw [hf]
  iapply hk
  isplitr; · iexact HR
  isplitr; · iexact HL
  isplitl [HO]; · iexact HO
  isplitl [Htx]; · iexact Htx
  isplitl [Hrx]; · iexact Hrx
  isplitl [Hsl]; · iexact Hsl
  isplitl [Ho]; · iexact Ho
  iexact Hst

/-- Rows of the result are loaded; the program does not use them. -/
theorem skim_step {α : Type} {Q : α → sProp 𝕄} {off : Fin 2 → ℕ} {inb : ∀ a, off a + S256x512.size a ≤ S8192x512.size a}
    {k : Vec F S256x512 .bf16 → Prog (TpuEff nD τ sig (Elt F) Λ₀ .tc) α}
    {hl : (Memref.whole cc0_stg2_0 : Memref sig .tc .vmem S8192x512 .bf16).view.LoadsAt (Rect.unit (s := S8192x512) off S256x512.size inb).toLoadRect}
    (hk : ∀ v, State m K c n ⊢ WP c (k v) Q) :
    State m K c n ⊢ WP c (.op (.load (Memref.whole cc0_stg2_0 : Memref sig .tc .vmem S8192x512 .bf16) (Rect.unit (s := S8192x512) off S256x512.size inb).toLoadRect hl) k) Q := by
  unfold State outAt at *
  iintro ⟨#HR, #HL, HO, Htx, Hrx, Hsl, ⟨%f, %hf, Ho⟩, Hst⟩
  iapply (wp_load 𝒱₀ (c : Thread nD τ) none Set.univ (m := (Memref.whole cc0_stg2_0 : Memref sig .tc .vmem S8192x512 .bf16))
    (r := (Rect.unit (s := S8192x512) off S256x512.size inb).toLoadRect) (S := Finset.univ) (Finset.subset_univ _)) $$ Ho
  iintro Ho
  iapply (hk _)
  isplitr; · iexact HR
  isplitr; · iexact HL
  isplitl [HO]; · iexact HO
  isplitl [Htx]; · iexact Htx
  isplitl [Hrx]; · iexact Hrx
  isplitl [Hsl]; · iexact Hsl
  isplitl [Ho]
  · iexists f
    isplitr; · (ipureintro; exact hf)
    iexact Ho
  iexact Hst

/-- Storing a slot's product makes its rows. -/
theorem made_store (sl : Slot) (hu : sl.used = true) {off : Fin 2 → ℕ} {inb : ∀ a, off a + S256x512.size a ≤ S8192x512.size a}
    (ho : off = ![512 * (sl.org c).val + 256 * sl.half.val, 0]) (f : Vec F S8192x512 .bf16) (hf : Made m c sl.storeAt f) :
    Made m c (sl.storeAt + 1) (((Memref.whole cc0_stg2_0 : Memref sig .tc .vmem S8192x512 .bf16).access (Rect.unit (s := S8192x512) off S256x512.size inb)).write (Elt F) f (prodOf m c sl) Finset.univ) := by
  subst ho
  rintro i ⟨sl', hu', hs', hr'⟩
  by_cases hr : rowsOf c sl i
  · have hi : ((Memref.whole cc0_stg2_0 : Memref sig .tc .vmem S8192x512 .bf16).access (Rect.unit (s := S8192x512) ![512 * (sl.org c).val + 256 * sl.half.val, 0] S256x512.size inb)).emb (inBlk i) = i := by
      have h0 : (i 0).val / 512 = (sl.org c).val := congrArg Fin.val hr.1
      have h1 : (i 0).val % 512 / 256 = sl.half.val := congrArg Fin.val hr.2
      refine funext fun a => Fin.ext ?_
      match a with
      | ⟨0, _⟩ =>
        show 512 * (sl.org c).val + 256 * sl.half.val + 1 * ((i 0).val % 256) = (i 0).val
        omega
      | ⟨1, _⟩ =>
        show 0 + 1 * (i 1).val = (i 1).val
        omega
    have hw := View.write_emb_of_mem (Val := Elt F) (v := (Memref.whole cc0_stg2_0 : Memref sig .tc .vmem S8192x512 .bf16).access (Rect.unit (s := S8192x512) ![512 * (sl.org c).val + 256 * sl.half.val, 0] S256x512.size inb))
      f (prodOf m c sl) (Finset.mem_univ (inBlk i))
    rw [hi] at hw
    refine hw.trans ?_
    show prodOf m c sl (inBlk i) = _
    unfold prodOf outOf val
    rw [hr.1, hr.2]
  · refine (View.write_of_not_mem _ _ _ ?_).trans (hf i ⟨sl', hu', ?_, hr'⟩)
    · show i ∉ ((View.whole cc0_stg2_0).slice (Rect.unit (s := S8192x512) ![512 * (sl.org c).val + 256 * sl.half.val, 0] S256x512.size inb)).set
      rw [View.set_slice_whole, Rect.mem_set_unit]
      intro h
      have h0 : 512 * (sl.org c).val + 256 * sl.half.val ≤ (i 0).val ∧ (i 0).val < 512 * (sl.org c).val + 256 * sl.half.val + 256 := h 0
      have h1 := sl.half.isLt
      refine hr ⟨Fin.ext ?_, Fin.ext ?_⟩
      · show (i 0).val / 512 = (sl.org c).val; omega
      · show (i 0).val % 512 / 256 = sl.half.val; omega
    · have : sl' ≠ sl := fun e => hr (e ▸ hr')
      have := store_store sl sl' hu hu' this.symm
      omega

/-- The product of the slot `sl` is stored. -/
theorem store_step {α : Type} {Q : α → sProp 𝕄} {k : PUnit → Prog (TpuEff nD τ sig (Elt F) Λ₀ .tc) α} (sl : Slot) {off : Fin 2 → ℕ} {inb : ∀ a, off a + S256x512.size a ≤ S8192x512.size a}
    {w : FVec F S256x512 .bf16}
    {hx : ((Memref.whole cc0_stg2_0 : Memref sig .tc .vmem S8192x512 .bf16).access (Rect.unit (s := S8192x512) off S256x512.size inb)).Stores Finset.univ} {hm}
    (hk : State m K c (n + 1) ⊢ WP c (k ⟨⟩) Q)
    (hu : sl.used = true := by rfl) (hn : n = sl.storeAt := by rfl) (hw : w = prodOf m c sl := by rfl) (ho : off = sl.offWord c := by rfl) :
    State m K c n ⊢ WP c (.op (.store (Memref.whole cc0_stg2_0 : Memref sig .tc .vmem S8192x512 .bf16) (Rect.unit (s := S8192x512) off S256x512.size inb) w Finset.univ hx hm) k) Q := by
  subst hn hw
  unfold State outAt at *
  iintro ⟨#HR, #HL, ⟨%W, HO⟩, Htx, Hrx, Hsl, ⟨%f, %hf, Ho⟩, Hst⟩
  iapply (wp_store 𝒱₀ (c : Thread nD τ) none Set.univ (m := (Memref.whole cc0_stg2_0 : Memref sig .tc .vmem S8192x512 .bf16))
    (r := Rect.unit (s := S8192x512) off S256x512.size inb) (S := Finset.univ) (Finset.subset_univ _)) $$ Ho
  iintro Ho
  ihave Htx := (Entails.of_eq (tx_stay c sl.storeAt fun t => ⟨(store_ne sl t hu).1, (store_ne sl t hu).2.2⟩)) $$ Htx
  ihave Hrx := (Entails.of_eq (rx_stay c sl.storeAt fun t => (store_ne sl t hu).2.1)) $$ Hrx
  ihave Hsl := (Entails.of_eq (slots_stay m c sl hu)) $$ Hsl
  iapply hk
  isplitr; · iexact HR
  isplitr; · iexact HL
  isplitl [HO]; · iexists W; rw [← owedX_succ c sl.storeAt fun t => (store_ne sl t hu).1]; iexact HO
  isplitl [Htx]; · iexact Htx
  isplitl [Hrx]; · iexact Hrx
  isplitl [Hsl]; · iexact Hsl
  isplitl [Ho]
  · iexists (((Memref.whole cc0_stg2_0 : Memref sig .tc .vmem S8192x512 .bf16).access (Rect.unit (s := S8192x512) off S256x512.size inb)).write (Elt F) f (prodOf m c sl) Finset.univ)
    isplitr; · (ipureintro; exact made_store m c sl hu (ho.trans (offWord_eq sl hu c)) f hf)
    iexact Ho
  iexact Hst

end Steps

end Cert.Gather

end
-- ==== Proof.Parts.lean ====
/-
# The body's stretches

The body's text is printed in stretches of sixty statements. Here each stretch that moves data or waits is run from the
step it begins at to the step it ends at, by the step lemmas; the stretches that only compute words change nothing.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- A stretch of the body on the buffers and semaphores the call gives it. -/
abbrev here {β : Sort*} (p : (a0 : Memref sig .tc .vmem S512x256 .bf16) → a0.IsWhole → (a1 : Memref sig .tc .vmem S256x512 .bf16) → a1.IsWhole
    → (a2 : Memref sig .tc .vmem S8192x512 .bf16) → a2.IsWhole → (a3 : Memref sig .tc .vmem S5x2x256x256 .i8) → a3.IsWhole
    → (a4 : Memref sig .tc .vmem S4x2x256x256 .i8) → a4.IsWhole → (a5 : Memref sig .tc .vmem S5x2x256x256 .i8) → a5.IsWhole
    → (a6 : Memref sig .tc .vmem S4x2x256x256 .i8) → a6.IsWhole → DmaSems sig S2 → DmaSems sig S2 → DmaSems sig S4x2 → DmaSems sig S4x2
    → DmaSems sig S3x2 → DmaSems sig S3x2 → DmaSems sig S4x2 → DmaSems sig S4x2 → DmaSems sig S3x2 → DmaSems sig S3x2 → β) : β :=
  p (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 cc0_scratch12 cc0_scratch13

/-- Run on device `c` from `P`, `p` ends in `P'` with a result of which `R` holds. -/
def Goes (c : Dev nD) (P P' : sProp 𝕄) {β : Type} (R : β → Prop) (p : Prog (TpuEff nD τ sig (Elt F) Λ₀ .tc) β) : Prop :=
  ∀ Q : β → sProp 𝕄, (∀ r, R r → P' ⊢ Q r) → P ⊢ WP c p Q
/-- The same from before step `n` to before step `n'`. -/
abbrev Runs (K : Dev nD × Key → ℕ) (c : Dev nD) (n n' : ℕ) {β : Type} (R : β → Prop) (p : Prog (TpuEff nD τ sig (Elt F) Λ₀ .tc) β) : Prop :=
  Goes c (State m K c n) (State m K c n') R p

/-- One stretch after another. -/
theorem Goes.then {c : Dev nD} {P P' P'' : sProp 𝕄} {β γ : Type} {R : β → Prop} {R' : γ → Prop} {p : Prog (TpuEff nD τ sig (Elt F) Λ₀ .tc) β}
    {k : β → Prog (TpuEff nD τ sig (Elt F) Λ₀ .tc) γ} (h : Goes c P P' R p) (hk : ∀ r, R r → Goes c P' P'' R' (k r)) : Goes c P P'' R' (p >>= k) := by
  intro Q hQ
  rw [WP, wp_bind]
  exact h _ fun r hr => hk r hr Q hQ
/-- A stretch that only computes words. -/
theorem Goes.words {c : Dev nD} {P : sProp 𝕄} {β : Type} {p : Prog (TpuEff nD τ sig (Elt F) Λ₀ .tc) β} (h : ∃ a, p = .ret a) :
    Goes c P P (fun _ => True) p := by
  obtain ⟨a, rfl⟩ := h
  exact fun Q hQ => (hQ a trivial).trans (fupd_intro (E := Set.univ))

variable (K : Dev nD × Key → ℕ) (c : Dev nD)

theorem run_part8 {v137 v181} : Runs m K c 1 4 (fun _ => True) (here (k0_part8 (F := F)) c v137 v181) := by
  intro Q h
  rw [k0_part8_eq_skeleton]; unfold k0_part8_skel
  simp only [Prog.lift, Prog.bind_op, Prog.bind_ret, Prog.pure_eq_ret]
  refine send_step m K c (.ro 0 0) ?_
  refine send_step m K c (.lo 0 0) ?_
  refine send_step m K c (.a 1) ?_
  exact ret_step m K c (h _ trivial)

theorem run_part9 {v49 v93 v137} : Runs m K c 4 6 (fun _ => True) (here (k0_part9 (F := F)) c v49 v93 v137) := by
  intro Q h
  rw [k0_part9_eq_skeleton]; unfold k0_part9_skel
  simp only [Prog.lift, Prog.bind_op, Prog.bind_ret, Prog.pure_eq_ret]
  refine send_step m K c (.ro 0 1) ?_
  refine send_step m K c (.lo 0 1) ?_
  exact ret_step m K c (h _ trivial)

theorem run_part11 {v181 v293 v296 v322} : Runs m K c 6 9 (fun _ => True) (here (k0_part11 (F := F)) c v181 (scaled m c) v293 v296 v322) := by
  intro Q h
  rw [k0_part11_eq_skeleton]; unfold k0_part11_skel
  simp only [Prog.lift, Prog.bind_op, Prog.bind_ret, Prog.pure_eq_ret]
  refine look_step m K c (.cro 0 0) ?_
  refine skim_step m K c fun _ => ?_
  refine store_step m K c (.cro 0 0) ?_
  refine look_step m K c (.cro 0 1) ?_
  refine skim_step m K c fun _ => ?_
  refine store_step m K c (.cro 0 1) ?_
  refine land_step m K c (.a 0) ?_
  exact ret_step m K c (h _ trivial)

theorem run_part12 {v93 v137 v181} : Runs m K c 9 11 (fun _ => True) (here (k0_part12 (F := F)) c v93 v137 v181) := by
  intro Q h
  rw [k0_part12_eq_skeleton]; unfold k0_part12_skel
  simp only [Prog.lift, Prog.bind_op, Prog.bind_ret, Prog.pure_eq_ret]
  refine send_step m K c (.ra 0 0) ?_
  refine send_step m K c (.la 0 0) ?_
  exact ret_step m K c (h _ trivial)

theorem run_part13 {v93 v137} : Runs m K c 11 14 (fun _ => True) (here (k0_part13 (F := F)) c v93 v137) := by
  intro Q h
  rw [k0_part13_eq_skeleton]; unfold k0_part13_skel
  simp only [Prog.lift, Prog.bind_op, Prog.bind_ret, Prog.pure_eq_ret]
  refine land_step m K c (.a 1) ?_
  refine send_step m K c (.ra 0 1) ?_
  refine send_step m K c (.la 0 1) ?_
  exact ret_step m K c (h _ trivial)

theorem run_part15 {v93 v411 v414 v417 v420 v423 v426 v429 v430 v431} : Runs m K c 14 16 (fun _ => True) (here (k0_part15 (F := F)) c v93 (scaled m c) v411 v414 v417 v420 v423 v426 v429 v430 v431) := by
  intro Q h
  rw [k0_part15_eq_skeleton]; unfold k0_part15_skel
  simp only [Prog.lift, Prog.bind_op, Prog.bind_ret, Prog.pure_eq_ret]
  refine look_step m K c (.cra 0 0) ?_
  refine skim_step m K c fun _ => ?_
  refine store_step m K c (.cra 0 0) ?_
  refine look_step m K c (.cra 0 1) ?_
  refine skim_step m K c fun _ => ?_
  refine store_step m K c (.cra 0 1) ?_
  exact ret_step m K c (h _ trivial)

theorem run_part16 {v93 v460 c0_i32_397} : Runs m K c 16 19 (fun _ => True) (here (k0_part16 (F := F)) c v93 v460 c0_i32_397) := by
  intro Q h
  rw [k0_part16_eq_skeleton]; unfold k0_part16_skel
  simp only [Prog.lift, Prog.bind_op, Prog.bind_ret, Prog.pure_eq_ret]
  refine land_step m K c (.ro 0 0) ?_
  refine send_step m K c (.ro 1 0) ?_
  refine land_step m K c (.ro 0 1) ?_
  exact ret_step m K c (h _ trivial)

theorem run_part17 {v93 v137} : Runs m K c 19 21 (fun _ => True) (here (k0_part17 (F := F)) c v93 v137) := by
  intro Q h
  rw [k0_part17_eq_skeleton]; unfold k0_part17_skel
  simp only [Prog.lift, Prog.bind_op, Prog.bind_ret, Prog.pure_eq_ret]
  refine send_step m K c (.ro 1 1) ?_
  refine land_step m K c (.lo 0 0) ?_
  exact ret_step m K c (h _ trivial)

theorem run_part18 {v137} : Runs m K c 21 23 (fun _ => True) (here (k0_part18 (F := F)) c v137) := by
  intro Q h
  rw [k0_part18_eq_skeleton]; unfold k0_part18_skel
  simp only [Prog.lift, Prog.bind_op, Prog.bind_ret, Prog.pure_eq_ret]
  refine send_step m K c (.lo 1 0) ?_
  refine land_step m K c (.lo 0 1) ?_
  exact ret_step m K c (h _ trivial)

theorem run_part19 {v49} : Runs m K c 23 24 (fun _ => True) (here (k0_part19 (F := F)) c v49) := by
  intro Q h
  rw [k0_part19_eq_skeleton]; unfold k0_part19_skel
  simp only [Prog.lift, Prog.bind_op, Prog.bind_ret, Prog.pure_eq_ret]
  refine send_step m K c (.lo 1 1) ?_
  exact ret_step m K c (h _ trivial)

theorem run_part20 {v49 v545 v548 v551 v554 v557 v560 v563 v564} : Runs m K c 24 26 (fun _ => True) (here (k0_part20 (F := F)) c v49 (scaled m c) v545 v548 v551 v554 v557 v560 v563 v564) := by
  intro Q h
  rw [k0_part20_eq_skeleton]; unfold k0_part20_skel
  simp only [Prog.lift, Prog.bind_op, Prog.bind_ret, Prog.pure_eq_ret]
  refine look_step m K c (.cro 1 0) ?_
  refine skim_step m K c fun _ => ?_
  refine store_step m K c (.cro 1 0) ?_
  refine look_step m K c (.cro 1 1) ?_
  refine skim_step m K c fun _ => ?_
  refine store_step m K c (.cro 1 1) ?_
  exact ret_step m K c (h _ trivial)

theorem run_part22 {v93 v607 v610 v613 v616 v619 v622 v633} : Runs m K c 26 28 (fun _ => True) (here (k0_part22 (F := F)) c v93 (scaled m c) v607 v610 v613 v616 v619 v622 v633) := by
  intro Q h
  rw [k0_part22_eq_skeleton]; unfold k0_part22_skel
  simp only [Prog.lift, Prog.bind_op, Prog.bind_ret, Prog.pure_eq_ret]
  refine look_step m K c (.clo 1 0) ?_
  refine skim_step m K c fun _ => ?_
  refine store_step m K c (.clo 1 0) ?_
  refine look_step m K c (.clo 1 1) ?_
  refine skim_step m K c fun _ => ?_
  refine store_step m K c (.clo 1 1) ?_
  exact ret_step m K c (h _ trivial)

theorem run_part23 {v93} : Runs m K c 28 31 (fun _ => True) (here (k0_part23 (F := F)) c v93) := by
  intro Q h
  rw [k0_part23_eq_skeleton]; unfold k0_part23_skel
  simp only [Prog.lift, Prog.bind_op, Prog.bind_ret, Prog.pure_eq_ret]
  refine land_step m K c (.ra 0 0) ?_
  refine send_step m K c (.ra 1 0) ?_
  refine land_step m K c (.ra 0 1) ?_
  exact ret_step m K c (h _ trivial)

theorem run_part24 {v93 v137} : Runs m K c 31 33 (fun _ => True) (here (k0_part24 (F := F)) c v93 v137) := by
  intro Q h
  rw [k0_part24_eq_skeleton]; unfold k0_part24_skel
  simp only [Prog.lift, Prog.bind_op, Prog.bind_ret, Prog.pure_eq_ret]
  refine send_step m K c (.ra 1 1) ?_
  refine land_step m K c (.la 0 0) ?_
  exact ret_step m K c (h _ trivial)

theorem run_part25 {v49 v137} : Runs m K c 33 36 (fun _ => True) (here (k0_part25 (F := F)) c v49 v137) := by
  intro Q h
  rw [k0_part25_eq_skeleton]; unfold k0_part25_skel
  simp only [Prog.lift, Prog.bind_op, Prog.bind_ret, Prog.pure_eq_ret]
  refine send_step m K c (.la 1 0) ?_
  refine land_step m K c (.la 0 1) ?_
  refine send_step m K c (.la 1 1) ?_
  exact ret_step m K c (h _ trivial)

theorem run_part27 {v49 v742 v745 v748 v751 v754 v757 v760 v761 v762 v763 v764} : Runs m K c 36 38 (fun _ => True) (here (k0_part27 (F := F)) c v49 (scaled m c) v742 v745 v748 v751 v754 v757 v760 v761 v762 v763 v764) := by
  intro Q h
  rw [k0_part27_eq_skeleton]; unfold k0_part27_skel
  simp only [Prog.lift, Prog.bind_op, Prog.bind_ret, Prog.pure_eq_ret]
  refine look_step m K c (.cra 1 0) ?_
  refine skim_step m K c fun _ => ?_
  refine store_step m K c (.cra 1 0) ?_
  refine look_step m K c (.cra 1 1) ?_
  refine skim_step m K c fun _ => ?_
  refine store_step m K c (.cra 1 1) ?_
  exact ret_step m K c (h _ trivial)

theorem run_part29 {v93 v805 v808 v834} : Runs m K c 38 41 (fun _ => True) (here (k0_part29 (F := F)) c v93 (scaled m c) v805 v808 v834) := by
  intro Q h
  rw [k0_part29_eq_skeleton]; unfold k0_part29_skel
  simp only [Prog.lift, Prog.bind_op, Prog.bind_ret, Prog.pure_eq_ret]
  refine look_step m K c (.cla 1 0) ?_
  refine skim_step m K c fun _ => ?_
  refine store_step m K c (.cla 1 0) ?_
  refine look_step m K c (.cla 1 1) ?_
  refine skim_step m K c fun _ => ?_
  refine store_step m K c (.cla 1 1) ?_
  refine land_step m K c (.ro 1 0) ?_
  exact ret_step m K c (h _ trivial)

theorem run_part30 {v93} : Runs m K c 41 43 (fun _ => True) (here (k0_part30 (F := F)) c v93) := by
  intro Q h
  rw [k0_part30_eq_skeleton]; unfold k0_part30_skel
  simp only [Prog.lift, Prog.bind_op, Prog.bind_ret, Prog.pure_eq_ret]
  refine send_step m K c (.ro 2 0) ?_
  refine land_step m K c (.ro 1 1) ?_
  exact ret_step m K c (h _ trivial)

theorem run_part31 {v137} : Runs m K c 43 45 (fun _ => True) (here (k0_part31 (F := F)) c v137) := by
  intro Q h
  rw [k0_part31_eq_skeleton]; unfold k0_part31_skel
  simp only [Prog.lift, Prog.bind_op, Prog.bind_ret, Prog.pure_eq_ret]
  refine send_step m K c (.ro 2 1) ?_
  refine land_step m K c (.lo 1 0) ?_
  exact ret_step m K c (h _ trivial)

theorem run_part32 {v49 v137} : Runs m K c 45 48 (fun _ => True) (here (k0_part32 (F := F)) c v49 v137) := by
  intro Q h
  rw [k0_part32_eq_skeleton]; unfold k0_part32_skel
  simp only [Prog.lift, Prog.bind_op, Prog.bind_ret, Prog.pure_eq_ret]
  refine send_step m K c (.lo 2 0) ?_
  refine land_step m K c (.lo 1 1) ?_
  refine send_step m K c (.lo 2 1) ?_
  exact ret_step m K c (h _ trivial)

theorem run_part34 {v49 v939 v942 v945 v948 v951 v954 v966} : Runs m K c 48 50 (fun _ => True) (here (k0_part34 (F := F)) c v49 (scaled m c) v939 v942 v945 v948 v951 v954 v966) := by
  intro Q h
  rw [k0_part34_eq_skeleton]; unfold k0_part34_skel
  simp only [Prog.lift, Prog.bind_op, Prog.bind_ret, Prog.pure_eq_ret]
  refine look_step m K c (.cro 2 0) ?_
  refine skim_step m K c fun _ => ?_
  refine store_step m K c (.cro 2 0) ?_
  refine look_step m K c (.cro 2 1) ?_
  refine skim_step m K c fun _ => ?_
  refine store_step m K c (.cro 2 1) ?_
  exact ret_step m K c (h _ trivial)

theorem run_part35 {v998 v999 c4_i32_963} : Runs m K c 50 50 (fun r => r.2 = k0_pay21 (val m c (.clo 2 0))) (here (k0_part35 (F := F)) v998 v999 c4_i32_963) := by
  intro Q h
  rw [k0_part35_eq_skeleton]; unfold k0_part35_skel
  simp only [Prog.lift, Prog.bind_op, Prog.bind_ret, Prog.pure_eq_ret]
  refine look_step m K c (.clo 2 0) ?_
  exact ret_step m K c (h _ rfl)

theorem run_part36 {v93 v1031} : Runs m K c 50 53 (fun _ => True) (here (k0_part36 (F := F)) c v93 (scaled m c) v1031 (k0_pay21 (val m c (.clo 2 0)))) := by
  intro Q h
  rw [k0_part36_eq_skeleton]; unfold k0_part36_skel
  simp only [Prog.lift, Prog.bind_op, Prog.bind_ret, Prog.pure_eq_ret]
  refine skim_step m K c fun _ => ?_
  refine store_step m K c (.clo 2 0) ?_
  refine look_step m K c (.clo 2 1) ?_
  refine skim_step m K c fun _ => ?_
  refine store_step m K c (.clo 2 1) ?_
  refine land_step m K c (.ra 1 0) ?_
  exact ret_step m K c (h _ trivial)

theorem run_part37 {v93} : Runs m K c 53 55 (fun _ => True) (here (k0_part37 (F := F)) c v93) := by
  intro Q h
  rw [k0_part37_eq_skeleton]; unfold k0_part37_skel
  simp only [Prog.lift, Prog.bind_op, Prog.bind_ret, Prog.pure_eq_ret]
  refine send_step m K c (.ra 2 0) ?_
  refine land_step m K c (.ra 1 1) ?_
  exact ret_step m K c (h _ trivial)

theorem run_part38 {v137} : Runs m K c 55 58 (fun _ => True) (here (k0_part38 (F := F)) c v137) := by
  intro Q h
  rw [k0_part38_eq_skeleton]; unfold k0_part38_skel
  simp only [Prog.lift, Prog.bind_op, Prog.bind_ret, Prog.pure_eq_ret]
  refine send_step m K c (.ra 2 1) ?_
  refine land_step m K c (.la 1 0) ?_
  refine send_step m K c (.la 2 0) ?_
  exact ret_step m K c (h _ trivial)

theorem run_part39 {v49 v137} : Runs m K c 58 60 (fun _ => True) (here (k0_part39 (F := F)) c v49 v137) := by
  intro Q h
  rw [k0_part39_eq_skeleton]; unfold k0_part39_skel
  simp only [Prog.lift, Prog.bind_op, Prog.bind_ret, Prog.pure_eq_ret]
  refine land_step m K c (.la 1 1) ?_
  refine send_step m K c (.la 2 1) ?_
  exact ret_step m K c (h _ trivial)

theorem run_part41 {v49 v1166} : Runs m K c 60 62 (fun _ => True) (here (k0_part41 (F := F)) c v49 (scaled m c) v1166) := by
  intro Q h
  rw [k0_part41_eq_skeleton]; unfold k0_part41_skel
  simp only [Prog.lift, Prog.bind_op, Prog.bind_ret, Prog.pure_eq_ret]
  refine look_step m K c (.cra 2 0) ?_
  refine skim_step m K c fun _ => ?_
  refine store_step m K c (.cra 2 0) ?_
  refine look_step m K c (.cra 2 1) ?_
  refine skim_step m K c fun _ => ?_
  refine store_step m K c (.cra 2 1) ?_
  exact ret_step m K c (h _ trivial)

theorem run_part42 {v1196 v1199 v1200} : Runs m K c 62 62 (fun r => r.2.1 = k0_pay26 (scaled m c) (val m c (.cla 2 0))) (here (k0_part42 (F := F)) (scaled m c) v1196 v1199 v1200) := by
  intro Q h
  rw [k0_part42_eq_skeleton]; unfold k0_part42_skel
  simp only [Prog.lift, Prog.bind_op, Prog.bind_ret, Prog.pure_eq_ret]
  refine look_step m K c (.cla 2 0) ?_
  exact ret_step m K c (h _ rfl)

theorem run_part43 {v93 v1229 c512_i32_1196} : Runs m K c 62 65 (fun _ => True) (here (k0_part43 (F := F)) c v93 (scaled m c) v1229 (k0_pay26 (scaled m c) (val m c (.cla 2 0))) c512_i32_1196) := by
  intro Q h
  rw [k0_part43_eq_skeleton]; unfold k0_part43_skel
  simp only [Prog.lift, Prog.bind_op, Prog.bind_ret, Prog.pure_eq_ret]
  refine skim_step m K c fun _ => ?_
  refine store_step m K c (.cla 2 0) ?_
  refine look_step m K c (.cla 2 1) ?_
  refine skim_step m K c fun _ => ?_
  refine store_step m K c (.cla 2 1) ?_
  refine land_step m K c (.ro 2 0) ?_
  exact ret_step m K c (h _ trivial)

theorem run_part44 {v93} : Runs m K c 65 67 (fun _ => True) (here (k0_part44 (F := F)) c v93) := by
  intro Q h
  rw [k0_part44_eq_skeleton]; unfold k0_part44_skel
  simp only [Prog.lift, Prog.bind_op, Prog.bind_ret, Prog.pure_eq_ret]
  refine send_step m K c (.ro 3 0) ?_
  refine land_step m K c (.ro 2 1) ?_
  exact ret_step m K c (h _ trivial)

theorem run_part45 {v49 v137} : Runs m K c 67 70 (fun _ => True) (here (k0_part45 (F := F)) c v49 v137) := by
  intro Q h
  rw [k0_part45_eq_skeleton]; unfold k0_part45_skel
  simp only [Prog.lift, Prog.bind_op, Prog.bind_ret, Prog.pure_eq_ret]
  refine send_step m K c (.ro 3 1) ?_
  refine land_step m K c (.lo 2 0) ?_
  refine land_step m K c (.lo 2 1) ?_
  exact ret_step m K c (h _ trivial)

theorem run_part47 {v49 v1313 v1316 v1342} : Runs m K c 70 72 (fun _ => True) (here (k0_part47 (F := F)) c v49 (scaled m c) v1313 v1316 v1342) := by
  intro Q h
  rw [k0_part47_eq_skeleton]; unfold k0_part47_skel
  simp only [Prog.lift, Prog.bind_op, Prog.bind_ret, Prog.pure_eq_ret]
  refine look_step m K c (.cro 3 0) ?_
  refine skim_step m K c fun _ => ?_
  refine store_step m K c (.cro 3 0) ?_
  refine look_step m K c (.cro 3 1) ?_
  refine skim_step m K c fun _ => ?_
  refine store_step m K c (.cro 3 1) ?_
  exact ret_step m K c (h _ trivial)

theorem run_part48 {v1372 v1375} : Runs m K c 72 72 (fun r => r.2 = k0_pay30 (scaled m c) (val m c (.clo 3 0))) (here (k0_part48 (F := F)) (scaled m c) v1372 v1375) := by
  intro Q h
  rw [k0_part48_eq_skeleton]; unfold k0_part48_skel
  simp only [Prog.lift, Prog.bind_op, Prog.bind_ret, Prog.pure_eq_ret]
  refine look_step m K c (.clo 3 0) ?_
  exact ret_step m K c (h _ rfl)

theorem run_part49 {v93 v1405} : Runs m K c 72 75 (fun _ => True) (here (k0_part49 (F := F)) c v93 (scaled m c) v1405 (k0_pay30 (scaled m c) (val m c (.clo 3 0)))) := by
  intro Q h
  rw [k0_part49_eq_skeleton]; unfold k0_part49_skel
  simp only [Prog.lift, Prog.bind_op, Prog.bind_ret, Prog.pure_eq_ret]
  refine skim_step m K c fun _ => ?_
  refine store_step m K c (.clo 3 0) ?_
  refine look_step m K c (.clo 3 1) ?_
  refine skim_step m K c fun _ => ?_
  refine store_step m K c (.clo 3 1) ?_
  refine land_step m K c (.ra 2 0) ?_
  exact ret_step m K c (h _ trivial)

theorem run_part50 {v93 v1432} : Runs m K c 75 77 (fun _ => True) (here (k0_part50 (F := F)) c v93 v1432) := by
  intro Q h
  rw [k0_part50_eq_skeleton]; unfold k0_part50_skel
  simp only [Prog.lift, Prog.bind_op, Prog.bind_ret, Prog.pure_eq_ret]
  refine send_step m K c (.ra 3 0) ?_
  refine land_step m K c (.ra 2 1) ?_
  exact ret_step m K c (h _ trivial)

theorem run_part51 {v49 v137} : Runs m K c 77 80 (fun _ => True) (here (k0_part51 (F := F)) c v49 v137) := by
  intro Q h
  rw [k0_part51_eq_skeleton]; unfold k0_part51_skel
  simp only [Prog.lift, Prog.bind_op, Prog.bind_ret, Prog.pure_eq_ret]
  refine send_step m K c (.ra 3 1) ?_
  refine land_step m K c (.la 2 0) ?_
  refine land_step m K c (.la 2 1) ?_
  exact ret_step m K c (h _ trivial)

theorem run_part53 {v49 v1490 v1493 v1496 v1499 v1502 v1505 v1516} : Runs m K c 80 82 (fun _ => True) (here (k0_part53 (F := F)) c v49 (scaled m c) v1490 v1493 v1496 v1499 v1502 v1505 v1516) := by
  intro Q h
  rw [k0_part53_eq_skeleton]; unfold k0_part53_skel
  simp only [Prog.lift, Prog.bind_op, Prog.bind_ret, Prog.pure_eq_ret]
  refine look_step m K c (.cra 3 0) ?_
  refine skim_step m K c fun _ => ?_
  refine store_step m K c (.cra 3 0) ?_
  refine look_step m K c (.cra 3 1) ?_
  refine skim_step m K c fun _ => ?_
  refine store_step m K c (.cra 3 1) ?_
  exact ret_step m K c (h _ trivial)

theorem run_part55 {v93 v1583} : Runs m K c 82 85 (fun _ => True) (here (k0_part55 (F := F)) c v93 (scaled m c) v1583) := by
  intro Q h
  rw [k0_part55_eq_skeleton]; unfold k0_part55_skel
  simp only [Prog.lift, Prog.bind_op, Prog.bind_ret, Prog.pure_eq_ret]
  refine look_step m K c (.cla 3 0) ?_
  refine skim_step m K c fun _ => ?_
  refine store_step m K c (.cla 3 0) ?_
  refine look_step m K c (.cla 3 1) ?_
  refine skim_step m K c fun _ => ?_
  refine store_step m K c (.cla 3 1) ?_
  refine land_step m K c (.ro 3 0) ?_
  exact ret_step m K c (h _ trivial)

theorem run_part56 {v49 v93} : Runs m K c 85 86 (fun _ => True) (here (k0_part56 (F := F)) v49 v93) := by
  intro Q h
  rw [k0_part56_eq_skeleton]; unfold k0_part56_skel
  simp only [Prog.lift, Prog.bind_op, Prog.bind_ret, Prog.pure_eq_ret]
  refine land_step m K c (.ro 3 1) ?_
  exact ret_step m K c (h _ trivial)

theorem run_part57 {v1628 v1631 v1634 v1637 v1640 c9_i32_1605} : Runs m K c 86 87 (fun r => r.2 = k0_pay38 (scaled m c) (val m c (.cro 4 1))) (here (k0_part57 (F := F)) c (scaled m c) v1628 v1631 v1634 v1637 v1640 c9_i32_1605) := by
  intro Q h
  rw [k0_part57_eq_skeleton]; unfold k0_part57_skel
  simp only [Prog.lift, Prog.bind_op, Prog.bind_ret, Prog.pure_eq_ret]
  refine look_step m K c (.cro 4 0) ?_
  refine skim_step m K c fun _ => ?_
  refine store_step m K c (.cro 4 0) ?_
  refine look_step m K c (.cro 4 1) ?_
  exact ret_step m K c (h _ rfl)

theorem run_part58 {v49 v93 v1661} : Runs m K c 87 90 (fun _ => True) (here (k0_part58 (F := F)) c v49 v93 v1661 (k0_pay38 (scaled m c) (val m c (.cro 4 1)))) := by
  intro Q h
  rw [k0_part58_eq_skeleton]; unfold k0_part58_skel
  simp only [Prog.lift, Prog.bind_op, Prog.bind_ret, Prog.pure_eq_ret]
  refine skim_step m K c fun _ => ?_
  refine store_step m K c (.cro 4 1) ?_
  refine land_step m K c (.ra 3 0) ?_
  refine land_step m K c (.ra 3 1) ?_
  exact ret_step m K c (h _ trivial)

theorem run_part60 {v1710 v1713 v1716 v1719 v1722 v1725 v1728 v1729 v1730 v1731} : Runs m K c 90 92 (fun _ => True) (here (k0_part60 (F := F)) c (scaled m c) v1710 v1713 v1716 v1719 v1722 v1725 v1728 v1729 v1730 v1731) := by
  intro Q h
  rw [k0_part60_eq_skeleton]; unfold k0_part60_skel
  simp only [Prog.lift, Prog.bind_op, Prog.bind_ret, Prog.pure_eq_ret]
  refine look_step m K c (.cra 4 0) ?_
  refine skim_step m K c fun _ => ?_
  refine store_step m K c (.cra 4 0) ?_
  refine look_step m K c (.cra 4 1) ?_
  refine skim_step m K c fun _ => ?_
  refine store_step m K c (.cra 4 1) ?_
  exact ret_step m K c (h _ trivial)

theorem run_part61 : Runs m K c 92 95 (fun _ => True) (here (k0_part61 (F := F))) := by
  intro Q h
  rw [k0_part61_eq_skeleton]; unfold k0_part61_skel
  simp only [Prog.lift, Prog.bind_op, Prog.bind_ret, Prog.pure_eq_ret]
  refine back_step m K c (.a 0) ?_
  refine back_step m K c (.a 1) ?_
  refine back_step m K c (.ro 0 0) ?_
  exact ret_step m K c (h _ trivial)

theorem run_part62 : Runs m K c 95 98 (fun _ => True) (here (k0_part62 (F := F))) := by
  intro Q h
  rw [k0_part62_eq_skeleton]; unfold k0_part62_skel
  simp only [Prog.lift, Prog.bind_op, Prog.bind_ret, Prog.pure_eq_ret]
  refine back_step m K c (.ra 0 0) ?_
  refine back_step m K c (.ro 0 1) ?_
  refine back_step m K c (.ra 0 1) ?_
  exact ret_step m K c (h _ trivial)

theorem run_part63 : Runs m K c 98 101 (fun _ => True) (here (k0_part63 (F := F))) := by
  intro Q h
  rw [k0_part63_eq_skeleton]; unfold k0_part63_skel
  simp only [Prog.lift, Prog.bind_op, Prog.bind_ret, Prog.pure_eq_ret]
  refine back_step m K c (.ro 1 0) ?_
  refine back_step m K c (.ra 1 0) ?_
  refine back_step m K c (.ro 1 1) ?_
  exact ret_step m K c (h _ trivial)

theorem run_part64 : Runs m K c 101 104 (fun _ => True) (here (k0_part64 (F := F))) := by
  intro Q h
  rw [k0_part64_eq_skeleton]; unfold k0_part64_skel
  simp only [Prog.lift, Prog.bind_op, Prog.bind_ret, Prog.pure_eq_ret]
  refine back_step m K c (.ra 1 1) ?_
  refine back_step m K c (.ro 2 0) ?_
  refine back_step m K c (.ra 2 0) ?_
  exact ret_step m K c (h _ trivial)

theorem run_part65 : Runs m K c 104 107 (fun _ => True) (here (k0_part65 (F := F))) := by
  intro Q h
  rw [k0_part65_eq_skeleton]; unfold k0_part65_skel
  simp only [Prog.lift, Prog.bind_op, Prog.bind_ret, Prog.pure_eq_ret]
  refine back_step m K c (.ro 2 1) ?_
  refine back_step m K c (.ra 2 1) ?_
  refine back_step m K c (.ro 3 0) ?_
  exact ret_step m K c (h _ trivial)

theorem run_part66 : Runs m K c 107 110 (fun _ => True) (here (k0_part66 (F := F))) := by
  intro Q h
  rw [k0_part66_eq_skeleton]; unfold k0_part66_skel
  simp only [Prog.lift, Prog.bind_op, Prog.bind_ret, Prog.pure_eq_ret]
  refine back_step m K c (.ra 3 0) ?_
  refine back_step m K c (.ro 3 1) ?_
  refine back_step m K c (.ra 3 1) ?_
  exact ret_step m K c (h _ trivial)

theorem run_part67 : Runs m K c 110 113 (fun _ => True) (here (k0_part67 (F := F))) := by
  intro Q h
  rw [k0_part67_eq_skeleton]; unfold k0_part67_skel
  simp only [Prog.lift, Prog.bind_op, Prog.bind_ret, Prog.pure_eq_ret]
  refine back_step m K c (.lo 0 0) ?_
  refine back_step m K c (.la 0 0) ?_
  refine back_step m K c (.lo 0 1) ?_
  exact ret_step m K c (h _ trivial)

theorem run_part68 : Runs m K c 113 116 (fun _ => True) (here (k0_part68 (F := F))) := by
  intro Q h
  rw [k0_part68_eq_skeleton]; unfold k0_part68_skel
  simp only [Prog.lift, Prog.bind_op, Prog.bind_ret, Prog.pure_eq_ret]
  refine back_step m K c (.la 0 1) ?_
  refine back_step m K c (.lo 1 0) ?_
  refine back_step m K c (.la 1 0) ?_
  exact ret_step m K c (h _ trivial)

theorem run_part69 : Runs m K c 116 119 (fun _ => True) (here (k0_part69 (F := F))) := by
  intro Q h
  rw [k0_part69_eq_skeleton]; unfold k0_part69_skel
  simp only [Prog.lift, Prog.bind_op, Prog.bind_ret, Prog.pure_eq_ret]
  refine back_step m K c (.lo 1 1) ?_
  refine back_step m K c (.la 1 1) ?_
  refine back_step m K c (.lo 2 0) ?_
  exact ret_step m K c (h _ trivial)

end Cert.Gather

end
-- ==== Proof.Meet.lean ====
/-
# The meeting

Before its first step a device loads its two blocks, fills its own slots, and meets its three neighbours at the barrier:
each signal hands a neighbour the slots it is to write here, and the wait brings the slots this device is to write there.
-/
module

public import proofs.«01_k».proof.Proof.Parts

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

omit [FloatOps F] [Named F] in
theorem bigSep_none {ι : Type} (s : Finset ι) : (bigSep s fun _ => iprop(emp)) = (iprop(emp) : sProp 𝕄) := bigSep_emp_const s

/-! ## The slots by kind -/

/-- The slots no transfer writes. -/
def ends : Fin 6 → Slot := ![.cro 0 0, .cro 0 1, .clo 0 0, .clo 0 1, .cla 0 0, .cla 0 1]
def kinds : Fin 6 ⊕ Tr → Slot := Sum.elim ends Tr.dst
theorem kinds_bijective : Function.Bijective kinds := by decide +kernel

omit [FloatOps F] [Named F] in
/-- The slots are the six no transfer writes and each transfer's target. -/
theorem slots_eq (Φ : Slot → sProp 𝕄) : bigSep Finset.univ Φ
    = iprop((Φ (.cro 0 0) ∗ Φ (.cro 0 1) ∗ Φ (.clo 0 0) ∗ Φ (.clo 0 1) ∗ Φ (.cla 0 0) ∗ Φ (.cla 0 1)) ∗ bigSep Finset.univ fun t : Tr => Φ t.dst) := by
  rw [bigSep_univ_equiv (Equiv.ofBijective kinds kinds_bijective) Φ, bigSep_univ_sum]
  congr 1
  exact bigSep_univ_eq_bigSepL [0, 1, 2, 3, 4, 5] (by decide) (by decide) fun i : Fin 6 => Φ (ends i)

/-! ## Loading and storing a whole slot -/

section Ops
variable (c : Dev nD)

theorem skim_box {α : Type} {Q : α → sProp 𝕄} {k : Vec F S1x1x256x256 .i8 → Prog (TpuEff nD τ sig (Elt F) Λ₀ .tc) α} (sl : Slot) {d : Fin 4 → ℕ} {M : Memref sig .tc .vmem ⟨4, d⟩ .i8}
    {off : Fin 4 → ℕ} {inb : ∀ a, off a + S1x1x256x256.size a ≤ (⟨4, d⟩ : Shape).size a}
    {hl : M.view.LoadsAt (Rect.unit (s := ⟨4, d⟩) off S1x1x256x256.size inb).toLoadRect}
    (hb : M.slice (Rect.unit (s := ⟨4, d⟩) off S1x1x256x256.size inb) (fun _ => rfl) = sl.box := by rfl) :
    vacant (F := F) c sl ⊢ iprop((∀ v, vacant (F := F) c sl -∗ WP c (k v) Q)
      -∗ WP c (.op (.load M (Rect.unit (s := ⟨4, d⟩) off S1x1x256x256.size inb).toLoadRect hl) k) Q) := by
  unfold vacant
  iintro ⟨%f, H⟩ Hk
  iapply (load_box c sl.box hb fullShare f) $$ H
  iintro H
  iapply Hk
  iexists f; iexact H

theorem store_box {α : Type} {Q : α → sProp 𝕄} {k : PUnit → Prog (TpuEff nD τ sig (Elt F) Λ₀ .tc) α} (sl : Slot) {d : Fin 4 → ℕ} {M : Memref sig .tc .vmem ⟨4, d⟩ .i8}
    {off : Fin 4 → ℕ} {inb : ∀ a, off a + S1x1x256x256.size a ≤ (⟨4, d⟩ : Shape).size a} {w : Vec F S1x1x256x256 .i8}
    {hx : (M.access (Rect.unit (s := ⟨4, d⟩) off S1x1x256x256.size inb)).Stores Finset.univ} {hm}
    (hb : M.slice (Rect.unit (s := ⟨4, d⟩) off S1x1x256x256.size inb) (fun _ => rfl) = sl.box := by rfl) :
    vacant (F := F) c sl ⊢ iprop((held c sl fullShare w -∗ WP c (k ⟨⟩) Q)
      -∗ WP c (.op (.store M (Rect.unit (s := ⟨4, d⟩) off S1x1x256x256.size inb) w Finset.univ hx hm) k) Q) := by
  unfold vacant held
  rw [← hb]
  iintro ⟨%f, H⟩ Hk
  iapply (wp_store 𝒱₀ (c : Thread nD τ) none Set.univ (m := M) (r := Rect.unit (s := ⟨4, d⟩) off S1x1x256x256.size inb) (Mk := Finset.univ) (hx := hx) (hm := hm) (w := w)
    (k := k) (Q := Q) (by rw [View.setOn_univ])) $$ H
  iintro H
  iapply Hk
  iexists ((M.access (Rect.unit (s := ⟨4, d⟩) off S1x1x256x256.size inb)).write (Elt F) f w Finset.univ)
  isplitr
  · ipureintro
    exact View.read_write_univ _ _
  iexact H
end Ops

/-! ## What a device starts with -/

section Start
variable (K : Dev nD × Key → ℕ) (c : Dev nD)

/-- What is dealt to the device alone: its place on its own cells, and the duties it is to pay. -/
def mine : sProp 𝕄 :=
  iprop((bigSep Finset.univ fun k : Key => atPos ER (kcell (c, k)) 0 ∅ 0)
    ∗ (dutyTok ER (barCell (nbr 1 c)) 0 0 ∗ dutyTok ER (barCell (nbr 0 c)) 0 1 ∗ dutyTok ER (barCell (nbr 2 c)) 0 2)
    ∗ (bigSep Finset.univ fun t : Tr => dutyTok ER (sndCell c t) 0 0) ∗ bigSep Finset.univ fun t : Tr => dutyTok ER (rcvCell (t.to c) t) 0 0)

/-- All but the slots. -/
def Tools : sProp 𝕄 :=
  iprop(records (F := F) m K ∗ levAts L lv ∗ (∃ W, owes (c : Thread nD τ) (owedB3 c) W) ∗ mine (F := F) c
    ∗ cred (tallyAt (barCell c) () 3) ∗ (bigSep Finset.univ fun t : Tr => cred (tallyAt (rcvCell c t) () N))
    ∗ (∃ f : Buf (Elt F) ((c : Thread nD τ).loc cc0_stg2_0), (((c : Thread nD τ).loc cc0_stg2_0) ↦{fullShare} f))
    ∗ (((c : Thread nD τ).loc cc0_stg0_0) ↦{fullShare} aBlk m c) ∗ (((c : Thread nD τ).loc cc0_stg1_0) ↦{fullShare} bBlk m c))

def Ready : sProp 𝕄 := iprop(Tools m K c ∗ bigSep Finset.univ fun sl : Slot => vacant (F := F) c sl)

/-- The same with three of its own four slots filled. -/
def Nearly : sProp 𝕄 :=
  iprop(Tools m K c ∗ (held c (.cro 0 0) fullShare (val m c (.cro 0 0)) ∗ held c (.cro 0 1) fullShare (val m c (.cro 0 1))
      ∗ held c (.clo 0 0) fullShare (val m c (.clo 0 0)) ∗ vacant (F := F) c (.clo 0 1) ∗ vacant (F := F) c (.cla 0 0) ∗ vacant (F := F) c (.cla 0 1))
    ∗ bigSep Finset.univ fun t : Tr => vacant (F := F) c t.dst)

theorem zero_off : (![0, 0] : Fin 2 → Nat) = fun _ => 0 := funext fun a => by fin_cases a <;> rfl

/-- The two blocks are loaded, and the device's own chunk goes to its slots. -/
theorem run_part6 {v151 v154 v180} : Goes c (Ready m K c) (Nearly m K c) (fun r => r.2.1 = scaled m c ∧ r.2.2 = k0_pay6 (aBlk m c))
    (here (k0_part6 (F := F)) v151 v154 v180) := by
  intro Q h
  rw [k0_part6_eq_skeleton]; unfold k0_part6_skel
  simp only [Prog.lift, Prog.bind_op, Prog.bind_ret, Prog.pure_eq_ret]
  unfold Ready Tools
  rw [slots_eq]
  iintro ⟨⟨#HR, #HL, HO, Hm, Hcb, Hcr, Ho, HA, HB⟩, ⟨H00, H01, H10, H11, Hi0, Hi1⟩, Ht⟩
  iapply (wp_load 𝒱₀ (c : Thread nD τ) none Set.univ (m := (Memref.whole cc0_stg1_0 : Memref sig .tc .vmem S256x512 .bf16)) (Finset.subset_univ _)) $$ HB
  iintro HB
  rw [show (Memref.whole cc0_stg1_0 : Memref sig .tc .vmem S256x512 .bf16).view.readAt (Elt F) (Rect.unit (s := S256x512) ![0, 0] S256x512.size inb_S256x512_S256x512_0_0).toLoadRect (bBlk m c) = bBlk m c from
    Memref.readAt_unit_zero (Elt F) cc0_stg1_0 zero_off _ _]
  iapply (wp_load 𝒱₀ (c : Thread nD τ) none Set.univ (m := (Memref.whole cc0_stg0_0 : Memref sig .tc .vmem S512x256 .bf16)) (Finset.subset_univ _)) $$ HA
  iintro HA
  rw [show (Memref.whole cc0_stg0_0 : Memref sig .tc .vmem S512x256 .bf16).view.readAt (Elt F) (Rect.unit (s := S512x256) ![0, 0] S512x256.size inb_S512x256_S512x256_0_0).toLoadRect (aBlk m c) = aBlk m c from
    Memref.readAt_unit_zero (Elt F) cc0_stg0_0 zero_off _ _]
  iapply (skim_box c (.cro 0 0)) $$ H00
  iintro %_ H00
  iapply (store_box c (.cro 0 0)) $$ H00
  iintro H00
  iapply (skim_box c (.clo 0 0)) $$ H10
  iintro %_ H10
  iapply (store_box c (.clo 0 0)) $$ H10
  iintro H10
  iapply (skim_box c (.cro 0 1)) $$ H01
  iintro %_ H01
  iapply (store_box c (.cro 0 1)) $$ H01
  iintro H01
  iapply (skim_box c (.clo 0 1)) $$ H11
  iintro %_ H11
  rw [WP, wp_ret]; imodintro
  iapply (h _ ⟨rfl, rfl⟩)
  unfold Nearly Tools
  isplitl [HO Hm Hcb Hcr Ho HA HB]
  · isplitr; · iexact HR
    isplitr; · iexact HL
    isplitl [HO]; · iexact HO
    isplitl [Hm]; · iexact Hm
    isplitl [Hcb]; · iexact Hcb
    isplitl [Hcr]; · iexact Hcr
    isplitl [Ho]; · iexact Ho
    isplitl [HA]; · iexact HA
    iexact HB
  isplitr [Ht]
  · isplitl [H00]; · iexact H00
    isplitl [H01]; · iexact H01
    isplitl [H10]; · iexact H10
    isplitl [H11]; · iexact H11
    isplitl [Hi0]; · iexact Hi0
    iexact Hi1
  iexact Ht

/-- What the neighbour in direction `d` is handed: the slots here that its transfers write. -/
theorem barPay_eq (d : Fin 3) : (Rd (F := F) m).payload (barCell (nbr (opp d) c)) 0 d
    = bigSep Finset.univ fun t : Tr => if t.dir = d then vacant (F := F) c t.dst else iprop(emp) := by
  rw [payload_bar]
  unfold barPay
  refine bigSep_congr fun t _ => ?_
  split
  · next e => rw [Tr.to, e, nbr_opp]
  · rfl

omit [FloatOps F] [Named F] in
/-- The targets here, sorted by who writes them. -/
theorem targets_eq : (bigSep Finset.univ fun t : Tr => vacant (F := F) c t.dst)
    ⊢ bigSep Finset.univ fun d : Fin 3 => bigSep Finset.univ fun t : Tr => if t.dir = d then vacant (F := F) c t.dst else iprop(emp) := by
  rw [bigSep_univ_comm]
  refine bigSep_mono fun t _ => ?_
  rw [bigSep_univ_at _ t.dir, if_pos rfl, bigSep_congr (Ψ := fun _ => iprop(emp)) fun d hd => if_neg fun e => Finset.ne_of_mem_erase hd e.symm, bigSep_none]
  show vacant (F := F) c t.dst ⊢ iprop(vacant (F := F) c t.dst ∗ emp)
  iintro H
  isplitl [H]; · iexact H
  iempintro

omit [FloatOps F] [Named F] in
theorem places_eq : (bigSep Finset.univ fun k : Key => (atPos ER (kcell (c, k)) 0 ∅ 0 : sProp 𝕄))
    = iprop(atPos ER (barCell c) 0 ∅ 0 ∗ (bigSep Finset.univ fun t : Tr => atPos ER (sndCell c t) 0 ∅ 0) ∗ bigSep Finset.univ fun t : Tr => atPos ER (rcvCell c t) 0 ∅ 0) := by
  rw [bigSep_univ_sum, bigSep_univ_sum, bigSep_univ_eq_bigSepL [()] (by decide) (by decide)]
  rfl

theorem tx_zero : iprop((bigSep Finset.univ fun t : Tr => dutyTok ER (sndCell c t) 0 0) ∗ (bigSep Finset.univ fun t : Tr => dutyTok ER (rcvCell (t.to c) t) 0 0)
    ∗ (bigSep Finset.univ fun t : Tr => atPos ER (sndCell c t) 0 ∅ 0) ∗ bigSep Finset.univ fun t : Tr => vacant (F := F) (t.to c) t.dst)
    ⊢ bigSep Finset.univ (txAt (F := F) c 0) := by
  rw [bigSep_congr (Φ := txAt (F := F) c 0) fun t _ => show txAt (F := F) c 0 t = _ from if_pos (Nat.zero_le _)]
  simp only [bigSep_sep']
  exact BI.Entails.refl _

theorem rx_zero : iprop((bigSep Finset.univ fun t : Tr => atPos ER (rcvCell c t) 0 ∅ 0) ∗ bigSep Finset.univ fun t : Tr => cred (tallyAt (rcvCell c t) () N))
    ⊢ bigSep Finset.univ (rxAt (F := F) c 0) := by
  rw [bigSep_congr (Φ := rxAt (F := F) c 0) fun t _ => show rxAt (F := F) c 0 t = _ from if_pos (Nat.zero_le _), bigSep_sep']

theorem slot_zero (sl : Slot) : slotAt m c 0 sl = if sl.own = true then bigSep Finset.univ (fun p : Fin 3 => held c sl (third p) (val m c sl)) else iprop(emp) := by
  split
  · next h => exact bigSep_congr fun p _ => if_pos (by rw [av_zero, h])
  · next h => exact (bigSep_congr fun p _ => if_neg (by rw [av_zero]; exact h)).trans (bigSep_emp_const _)

theorem slots_zero : iprop(held c (.cro 0 0) fullShare (val m c (.cro 0 0)) ∗ held c (.cro 0 1) fullShare (val m c (.cro 0 1))
      ∗ held c (.clo 0 0) fullShare (val m c (.clo 0 0)) ∗ held c (.clo 0 1) fullShare (val m c (.clo 0 1)))
    ⊢ bigSep Finset.univ (slotAt m c 0) := by
  have hd (t : Tr) : t.dst.own = false := by revert t; decide +kernel
  have hn (sl : Slot) (h : sl.own = false) : slotAt m c 0 sl = iprop(emp) := by rw [slot_zero, if_neg (by rw [h]; decide)]
  have hy (sl : Slot) (h : sl.own = true) : held c sl fullShare (val m c sl) ⊢ slotAt m c 0 sl := by
    rw [slot_zero, if_pos h]; exact held_thirds c sl _
  rw [slots_eq, bigSep_congr fun t _ => hn t.dst (hd t), bigSep_none, hn (.cla 0 0) rfl, hn (.cla 0 1) rfl]
  iintro ⟨H1, H2, H3, H4⟩
  isplitl
  · isplitl [H1]; · iapply (hy (.cro 0 0) rfl); iexact H1
    isplitl [H2]; · iapply (hy (.cro 0 1) rfl); iexact H2
    isplitl [H3]; · iapply (hy (.clo 0 0) rfl); iexact H3
    isplitl [H4]; · iapply (hy (.clo 0 1) rfl); iexact H4
    isplitr <;> iempintro
  iempintro

/-- The device numbers the program computes for its signals. -/
theorem sigWord_eq (c : Dev nD) : k0_dev1 c = (nbr 1 c).val ∧ k0_dev2 c = (nbr 0 c).val ∧ k0_dev3 c = (nbr 2 c).val := by revert c; decide +kernel

/-- One signal to the neighbour in direction `opp d`. -/
theorem signal_step {α : Type} {Q : α → sProp 𝕄} {k : PUnit → Prog (TpuEff nD τ sig (Elt F) Λ₀ .tc) α} (d : Fin 3) {dev : Dev nD} (hd : dev = nbr (opp d) c)
    {O O' : CellTallies nD τ sig Unit} (hO : O = O' + tallyAt (barCell (nbr (opp d) c)) () 1) (W : Waits sig Unit) :
    iprop(records (F := F) m K ∗ owes (c : Thread nD τ) O W ∗ dutyTok ER (barCell (nbr (opp d) c)) 0 d
        ∗ bigSep Finset.univ fun t : Tr => if t.dir = d then vacant (F := F) c t.dst else iprop(emp))
      ⊢ iprop((owes (c : Thread nD τ) O' W -∗ WP c (k ⟨⟩) Q) -∗ WP c (.op (.semSignal (dev : Thread nD τ) barS 1) k) Q) := by
  subst hd
  rw [← barPay_eq m c d]
  iintro ⟨#HR, HO, Ht, Hp⟩
  ihave #HI := (inv_at m K (nbr (opp d) c, .inl ())) $$ HR
  ihave #Hr := (reached_at m K (nbr (opp d) c, .inl ())) $$ HR
  iapply (Rounds.wp_signal 𝒱₀ ER (Rd m) (c : Thread nD τ) none (dst := (nbr (opp d) c : Thread nD τ)) (κ := K (nbr (opp d) c, .inl ()))
      (d := d) (by rw [duties_bar]; exact Finset.mem_univ _) rfl () O' hO)
  isplitr; · iexact HI
  isplitl [HO]; · iexact HO
  isplitl [Ht]; · iexact Ht
  isplitl [Hp]; · iexact Hp
  iexact Hr

/-- The last own slot is filled, the neighbours are met, and the first transfer is started. -/
theorem run_part7 {v93 v137 v181} : Goes c (Nearly m K c) (State m K c 1) (fun _ => True) (here (k0_part7 (F := F)) c v93 v137 v181 (k0_pay6 (aBlk m c))) := by
  intro Q h
  rw [k0_part7_eq_skeleton]; unfold k0_part7_skel
  simp only [semSignalWord, semWaitWord, Prog.lift, Prog.bind_op, Prog.bind_ret, Prog.pure_eq_ret]
  unfold Nearly Tools mine
  rw [places_eq]
  iintro ⟨⟨#HR, #HL, ⟨%W, HO⟩, ⟨⟨Hab, Has, Har⟩, ⟨Hb0, Hb1, Hb2⟩, Hts, Htr⟩, Hcb, Hcr, ⟨%f, Ho⟩, HA, HB⟩, ⟨H00, H01, H10, H11, Hi0, Hi1⟩, Ht⟩
  iapply (store_box c (.clo 0 1)) $$ H11
  iintro H11
  ihave Ht := (targets_eq c) $$ Ht
  ihave Ht := (Entails.of_eq (bigSep_three _)) $$ Ht
  icases Ht with ⟨Ht0, Ht1, Ht2⟩
  iapply (signal_step m K c 0 (Fin.ext (sigWord_eq c).1) (O' := owedB2 c) rfl W) $$ [HO Hb0 Ht0]
  · isplitr; · iexact HR
    isplitl [HO]; · iexact HO
    isplitl [Hb0]; · iexact Hb0
    iexact Ht0
  iintro HO
  iapply (signal_step m K c 1 (Fin.ext (sigWord_eq c).2.1) (O' := owedB1 c) rfl W) $$ [HO Hb1 Ht1]
  · isplitr; · iexact HR
    isplitl [HO]; · iexact HO
    isplitl [Hb1]; · iexact Hb1
    iexact Ht1
  iintro HO
  iapply (signal_step m K c 2 (Fin.ext (sigWord_eq c).2.2) (O' := owedX c 0) rfl W) $$ [HO Hb2 Ht2]
  · isplitr; · iexact HR
    isplitl [HO]; · iexact HO
    isplitl [Hb2]; · iexact Hb2
    iexact Ht2
  iintro HO
  ihave #HI := (inv_at m K (c, .inl ())) $$ HR
  iapply (Rounds.wp_wait_rest_token 𝒱₀ ER (Rd m) (c : Thread nD τ) none (κ := K (c, .inl ())) (sm := .reg barS)
      (wpE_semWait_eq 𝒱₀ (c : Thread nD τ) none Set.univ) (Set.mem_univ _) () (O := owedX c 0) (W := W) (R := 0) (m := 0) (T := ∅)
      (by rw [expect_bar]; decide)) $$ [Hcb HO Hab]
  · isplitr; · iexact HI
    isplitl [Hcb]; · iexact Hcb
    isplitl [HO]; · iexact HO
    isplitr; · iapply (mayWait c (.reg barS) 0 fun t _ => lev_pos t); iexact HL
    iexact Hab
  iintro ⟨HO, Hab, -, Hpay⟩
  ihave Hv := (rest_bar m c) $$ Hpay
  imod (Rounds.cell_close ER (Rd m) (Set.mem_univ (K (c, .inl ()))) (fun h => h) (R := 0 + 1) (duties_later m (barCell c))) $$ [Hab] with Hz
  · isplitr; · iexact HI
    iexact Hab
  iapply (send_step m K c (Q := Q) (n := 0) (.a 0) (ret_step m K c (h _ trivial)))
  unfold State outAt still
  isplitr; · iexact HR
  isplitr; · iexact HL
  isplitl [HO]; · iexists _; iexact HO
  isplitl [Hts Htr Has Hv]
  · iapply (tx_zero c)
    isplitl [Hts]; · iexact Hts
    isplitl [Htr]; · iexact Htr
    isplitl [Has]; · iexact Has
    iexact Hv
  isplitl [Har Hcr]
  · iapply (rx_zero c)
    isplitl [Har]; · iexact Har
    iexact Hcr
  isplitl [H00 H01 H10 H11]
  · iapply (slots_zero m c)
    isplitl [H00]; · iexact H00
    isplitl [H01]; · iexact H01
    isplitl [H10]; · iexact H10
    iexact H11
  isplitl [Ho]
  · iexists f
    isplitr
    · ipureintro
      rintro i ⟨sl, _, hs, _⟩
      exact absurd hs (Nat.not_lt_zero _)
    iexact Ho
  isplitl [HA]; · iexact HA
  isplitl [HB]; · iexact HB
  isplitl [Hi0]; · iexact Hi0
  isplitl [Hi1]; · iexact Hi1
  iexact Hz

end Start

end Cert.Gather

end
-- ==== Proof.Body.lean ====
/-
# The whole body

The stretches one after another, from the device's start to the last step, and what is left then: the chunk buffers
whole again, every counter at zero, and the result.
-/
module

public import proofs.«01_k».proof.Proof.Meet

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Key → ℕ) (c : Dev nD)

/-- The first stretch asks for the device's own number. -/
theorem run_part1 {P : sProp 𝕄} : Goes c P P (fun r => r.1 = c) (here (k0_part1 (F := F))) := by
  intro Q h
  rw [k0_part1_eq_skeleton]; unfold k0_part1_skel
  simp only [Prog.lift, Prog.bind_op, Prog.bind_ret, Prog.pure_eq_ret]
  rw [WP, wp_deviceId]
  exact (h _ rfl).trans (fupd_intro (E := Set.univ))

/-- The first sixty stretches. -/
theorem run_part70 : Goes c (Ready m K c) (State m K c 92) (fun _ => True) (here (k0_part70 (F := F))) := by
  rw [k0_part70_eq_skeleton]; unfold k0_part70_skel
  refine (run_part1 c).then ?_
  rintro ⟨d, _, _, _, _, _, _, _⟩ (h : d = c)
  subst d
  refine (Goes.words ⟨_, rfl⟩).then fun ⟨_, _, _, _, _, _, _⟩ _ => ?_
  refine (Goes.words ⟨_, rfl⟩).then fun ⟨_, _, _, _⟩ _ => ?_
  refine (Goes.words ⟨_, rfl⟩).then fun ⟨_, _, _, _, _, _⟩ _ => ?_
  refine (Goes.words ⟨_, rfl⟩).then fun ⟨_, _, _⟩ _ => ?_
  refine (run_part6 m K c).then ?_
  rintro ⟨_, _, _⟩ ⟨h1, h2⟩
  cases h1; cases h2
  refine (run_part7 m K c).then fun _ _ => ?_
  refine (run_part8 m K c).then fun _ _ => ?_
  refine (run_part9 m K c).then fun ⟨_, _, _, _, _⟩ _ => ?_
  refine (Goes.words ⟨_, rfl⟩).then fun ⟨_, _, _⟩ _ => ?_
  refine (run_part11 m K c).then fun _ _ => ?_
  refine (run_part12 m K c).then fun _ _ => ?_
  refine (run_part13 m K c).then fun _ _ => ?_
  refine (Goes.words ⟨_, rfl⟩).then fun ⟨_, _, _, _, _, _, _, _, _⟩ _ => ?_
  refine (run_part15 m K c).then fun ⟨_, _⟩ _ => ?_
  refine (run_part16 m K c).then fun _ _ => ?_
  refine (run_part17 m K c).then fun _ _ => ?_
  refine (run_part18 m K c).then fun _ _ => ?_
  refine (run_part19 m K c).then fun ⟨_, _, _, _, _, _, _, _⟩ _ => ?_
  refine (run_part20 m K c).then fun ⟨_, _, _⟩ _ => ?_
  refine (Goes.words ⟨_, rfl⟩).then fun ⟨_, _, _, _, _, _, _⟩ _ => ?_
  refine (run_part22 m K c).then fun _ _ => ?_
  refine (run_part23 m K c).then fun _ _ => ?_
  refine (run_part24 m K c).then fun _ _ => ?_
  refine (run_part25 m K c).then fun ⟨_, _, _⟩ _ => ?_
  refine (Goes.words ⟨_, rfl⟩).then fun ⟨_, _, _, _, _, _, _, _, _, _, _⟩ _ => ?_
  refine (run_part27 m K c).then fun ⟨_, _, _, _, _⟩ _ => ?_
  refine (Goes.words ⟨_, rfl⟩).then fun ⟨_, _, _⟩ _ => ?_
  refine (run_part29 m K c).then fun _ _ => ?_
  refine (run_part30 m K c).then fun _ _ => ?_
  refine (run_part31 m K c).then fun _ _ => ?_
  refine (run_part32 m K c).then fun ⟨_, _, _, _⟩ _ => ?_
  refine (Goes.words ⟨_, rfl⟩).then fun ⟨_, _, _, _, _, _, _⟩ _ => ?_
  refine (run_part34 m K c).then fun ⟨_, _, _⟩ _ => ?_
  refine (run_part35 m K c).then ?_
  rintro ⟨_, _⟩ h
  cases h
  refine (run_part36 m K c).then fun _ _ => ?_
  refine (run_part37 m K c).then fun _ _ => ?_
  refine (run_part38 m K c).then fun _ _ => ?_
  refine (run_part39 m K c).then fun ⟨_, _, _⟩ _ => ?_
  refine (Goes.words ⟨_, rfl⟩).then fun _ _ => ?_
  refine (run_part41 m K c).then fun ⟨_, _, _⟩ _ => ?_
  refine (run_part42 m K c).then ?_
  rintro ⟨_, _, _⟩ h
  cases h
  refine (run_part43 m K c).then fun _ _ => ?_
  refine (run_part44 m K c).then fun _ _ => ?_
  refine (run_part45 m K c).then fun ⟨_, _, _, _, _⟩ _ => ?_
  refine (Goes.words ⟨_, rfl⟩).then fun ⟨_, _, _⟩ _ => ?_
  refine (run_part47 m K c).then fun ⟨_, _⟩ _ => ?_
  refine (run_part48 m K c).then ?_
  rintro ⟨_, _⟩ h
  cases h
  refine (run_part49 m K c).then fun _ _ => ?_
  refine (run_part50 m K c).then fun _ _ => ?_
  refine (run_part51 m K c).then fun ⟨_, _, _⟩ _ => ?_
  refine (Goes.words ⟨_, rfl⟩).then fun ⟨_, _, _, _, _, _, _⟩ _ => ?_
  refine (run_part53 m K c).then fun ⟨_, _, _⟩ _ => ?_
  refine (Goes.words ⟨_, rfl⟩).then fun _ _ => ?_
  refine (run_part55 m K c).then fun _ _ => ?_
  refine (run_part56 m K c).then fun ⟨_, _, _, _, _, _⟩ _ => ?_
  refine (run_part57 m K c).then ?_
  rintro ⟨_, _⟩ h
  cases h
  refine (run_part58 m K c).then fun ⟨_, _⟩ _ => ?_
  refine (Goes.words ⟨_, rfl⟩).then fun ⟨_, _, _, _, _, _, _, _, _, _⟩ _ => ?_
  exact (run_part60 m K c).then fun _ _ => Goes.words ⟨_, rfl⟩

/-- The body. -/
theorem run_body : Goes c (Ready m K c) (State m K c 122) (fun _ => True) (here (cc0_body (F := F))) := by
  rw [cc0_body_eq_skeleton]; unfold cc0_body_skel
  refine (run_part70 m K c).then fun _ _ => ?_
  refine (run_part61 m K c).then fun _ _ => ?_
  refine (run_part62 m K c).then fun _ _ => ?_
  refine (run_part63 m K c).then fun _ _ => ?_
  refine (run_part64 m K c).then fun _ _ => ?_
  refine (run_part65 m K c).then fun _ _ => ?_
  refine (run_part66 m K c).then fun _ _ => ?_
  refine (run_part67 m K c).then fun _ _ => ?_
  refine (run_part68 m K c).then fun _ _ => ?_
  refine (run_part69 m K c).then fun _ _ => ?_
  intro Q h
  simp only [Prog.lift, Prog.bind_op, Prog.bind_ret, Prog.pure_eq_ret]
  refine back_step m K c (.la 2 0) ?_
  refine back_step m K c (.lo 2 1) ?_
  refine back_step m K c (.la 2 1) ?_
  exact ret_step m K c (h _ trivial)

end Cert.Gather

end
-- ==== Proof.Ends.lean ====
/-
# The chunk buffers as slots, and what the body leaves

A chunk buffer held whole is its slots held one by one, and back. After the last step the slots are whole, the counters
are zero, nothing is owed and the result is complete.
-/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## A buffer is its slots -/

/-- The slots, buffer by buffer. -/
def place4 : ((Fin 5 × Fin 2) ⊕ (Fin 4 × Fin 2)) ⊕ ((Fin 5 × Fin 2) ⊕ (Fin 4 × Fin 2)) → Slot
  | .inl (.inl x) => .cro x.1 x.2
  | .inl (.inr x) => .clo x.1 x.2
  | .inr (.inl x) => .cra x.1 x.2
  | .inr (.inr x) => .cla x.1 x.2
theorem place4_bijective : Function.Bijective place4 := by decide +kernel

/-- An element lies in the slot its first two coordinates name. -/
theorem mem_slot {n : ℕ} {off : Fin 4 → ℕ} {inb : ∀ a, off a + S1x1x256x256.size a ≤ (⟨4, ![n, 2, 256, 256]⟩ : Shape).size a}
    (i : (⟨4, ![n, 2, 256, 256]⟩ : Shape).Idx) (x : Fin n × Fin 2) (ho : off = ![x.1.val, x.2.val, 0, 0]) :
    i ∈ (Rect.unit (s := ⟨4, ![n, 2, 256, 256]⟩) off S1x1x256x256.size inb).set ↔ ((i 0, i 1) : Fin n × Fin 2) = x := by
  subst ho
  obtain ⟨⟨s, _⟩, ⟨h, _⟩⟩ := x
  rw [Rect.mem_set_unit, Prod.ext_iff, Fin.ext_iff, Fin.ext_iff]
  show _ ↔ (i 0).val = s ∧ (i 1).val = h
  constructor
  · intro H
    have h0 : s ≤ (i 0).val ∧ (i 0).val < s + 1 := H 0
    have h1 : h ≤ (i 1).val ∧ (i 1).val < h + 1 := H 1
    omega
  · rintro ⟨h0, h1⟩ a
    match a with
    | ⟨0, _⟩ => show s ≤ (i 0).val ∧ (i 0).val < s + 1; omega
    | ⟨1, _⟩ => show h ≤ (i 1).val ∧ (i 1).val < h + 1; omega
    | ⟨2, _⟩ => exact ⟨Nat.zero_le _, by have := (i 2).isLt; exact (Nat.zero_add _).symm ▸ this⟩
    | ⟨3, _⟩ => exact ⟨Nat.zero_le _, by have := (i 3).isLt; exact (Nat.zero_add _).symm ▸ this⟩

/-- A buffer held whole is a family's members held one by one, and back. -/
def Splits (ℓ : Loc nD τ sig) {B : Type} [Fintype B] (Φ : B → sProp 𝕄) : Prop :=
  (iprop(∃ f : Buf (Elt F) ℓ, ℓ ↦{fullShare} f) ⊢ bigSep Finset.univ Φ) ∧ (bigSep Finset.univ Φ ⊢ iprop(∃ f : Buf (Elt F) ℓ, ℓ ↦{fullShare} f))

omit [FloatOps F] [Named F] in
/-- So it is when every element lies in exactly one member. -/
theorem splits {ℓ : Loc nD τ sig} {B : Type} [Fintype B] [DecidableEq B] (I : B → Finset (Idx ℓ)) (g : Idx ℓ → B) (hI : ∀ b i, i ∈ I b ↔ g i = b) (f₀ : Buf (Elt F) ℓ) :
    Splits ℓ fun b => (iprop(∃ f : Buf (Elt F) ℓ, ℓ ↦[I b]{fullShare} f) : sProp 𝕄) := by
  have hd : ∀ b b', b ≠ b' → Disjoint (I b) (I b') := fun b b' hb => Finset.disjoint_left.mpr fun i h h' =>
    hb (((hI b i).mp h).symm.trans ((hI b' i).mp h'))
  have hc : Finset.univ.biUnion I = Finset.univ := Finset.eq_univ_of_forall fun i => Finset.mem_biUnion.mpr ⟨g i, Finset.mem_univ _, (hI _ i).mpr rfl⟩
  constructor
  · iintro H
    ihave H := (Ring.fam_split_ex (Ix := Unit) (Name := ℕ) (U := UU) (Lvl := ℕ) I hd) $$ H
    icases H with ⟨H, -⟩
    iexact H
  · exact Ring.pointsTo_blocks_join_exists I hd hc f₀

section Buffers
variable (c : Dev nD)

omit [FloatOps F] [Named F] in
theorem splits_cro : Splits ((c : Thread nD τ).loc cc0_scratch0) fun x : Fin 5 × Fin 2 => vacant (F := F) c (.cro x.1 x.2) :=
  splits (ℓ := (c : Thread nD τ).loc cc0_scratch0) (fun x : Fin 5 × Fin 2 => (Slot.cro x.1 x.2).box.view.set) (fun i : S5x2x256x256.Idx => ((i 0, i 1) : Fin 5 × Fin 2))
    (fun x i => by
      rw [show (Slot.cro x.1 x.2).box.view.set = (Rect.unit (s := S5x2x256x256) ![x.1.val, x.2.val, 0, 0] S1x1x256x256.size (inb5 x.1 x.2)).set from View.set_slice_whole _ _]
      exact mem_slot i x rfl) (fun _ => (0#8 : BitVec 8))

omit [FloatOps F] [Named F] in
theorem splits_clo : Splits ((c : Thread nD τ).loc cc0_scratch1) fun x : Fin 4 × Fin 2 => vacant (F := F) c (.clo x.1 x.2) :=
  splits (ℓ := (c : Thread nD τ).loc cc0_scratch1) (fun x : Fin 4 × Fin 2 => (Slot.clo x.1 x.2).box.view.set) (fun i : S4x2x256x256.Idx => ((i 0, i 1) : Fin 4 × Fin 2))
    (fun x i => by
      rw [show (Slot.clo x.1 x.2).box.view.set = (Rect.unit (s := S4x2x256x256) ![x.1.val, x.2.val, 0, 0] S1x1x256x256.size (inb4 x.1 x.2)).set from View.set_slice_whole _ _]
      exact mem_slot i x rfl) (fun _ => (0#8 : BitVec 8))

omit [FloatOps F] [Named F] in
theorem splits_cra : Splits ((c : Thread nD τ).loc cc0_scratch2) fun x : Fin 5 × Fin 2 => vacant (F := F) c (.cra x.1 x.2) :=
  splits (ℓ := (c : Thread nD τ).loc cc0_scratch2) (fun x : Fin 5 × Fin 2 => (Slot.cra x.1 x.2).box.view.set) (fun i : S5x2x256x256.Idx => ((i 0, i 1) : Fin 5 × Fin 2))
    (fun x i => by
      rw [show (Slot.cra x.1 x.2).box.view.set = (Rect.unit (s := S5x2x256x256) ![x.1.val, x.2.val, 0, 0] S1x1x256x256.size (inb5 x.1 x.2)).set from View.set_slice_whole _ _]
      exact mem_slot i x rfl) (fun _ => (0#8 : BitVec 8))

omit [FloatOps F] [Named F] in
theorem splits_cla : Splits ((c : Thread nD τ).loc cc0_scratch3) fun x : Fin 4 × Fin 2 => vacant (F := F) c (.cla x.1 x.2) :=
  splits (ℓ := (c : Thread nD τ).loc cc0_scratch3) (fun x : Fin 4 × Fin 2 => (Slot.cla x.1 x.2).box.view.set) (fun i : S4x2x256x256.Idx => ((i 0, i 1) : Fin 4 × Fin 2))
    (fun x i => by
      rw [show (Slot.cla x.1 x.2).box.view.set = (Rect.unit (s := S4x2x256x256) ![x.1.val, x.2.val, 0, 0] S1x1x256x256.size (inb4 x.1 x.2)).set from View.set_slice_whole _ _]
      exact mem_slot i x rfl) (fun _ => (0#8 : BitVec 8))

omit [FloatOps F] [Named F] in
theorem slots_buffers (Φ : Slot → sProp 𝕄) : bigSep Finset.univ Φ
    = iprop(((bigSep Finset.univ fun x : Fin 5 × Fin 2 => Φ (.cro x.1 x.2)) ∗ bigSep Finset.univ fun x : Fin 4 × Fin 2 => Φ (.clo x.1 x.2))
      ∗ (bigSep Finset.univ fun x : Fin 5 × Fin 2 => Φ (.cra x.1 x.2)) ∗ bigSep Finset.univ fun x : Fin 4 × Fin 2 => Φ (.cla x.1 x.2)) := by
  rw [bigSep_univ_equiv (Equiv.ofBijective place4 place4_bijective) Φ, bigSep_univ_sum, bigSep_univ_sum, bigSep_univ_sum]
  rfl

omit [FloatOps F] [Named F] in
/-- The call's four chunk buffers are all the slots; -/
theorem slots_of_rest : (Pipeline.scopedRest spec0 c : sProp 𝕄) ⊢ bigSep Finset.univ fun sl : Slot => vacant (F := F) c sl := by
  rw [scopedRest0_eq, slots_buffers]
  iintro ⟨H0, H1, H2, H3⟩
  isplitl [H0 H1]
  · isplitl [H0]
    · iapply (splits_cro c).1; iexact H0
    · iapply (splits_clo c).1; iexact H1
  · isplitl [H2]
    · iapply (splits_cra c).1; iexact H2
    · iapply (splits_cla c).1; iexact H3

omit [FloatOps F] [Named F] in
/-- and back. -/
theorem rest_of_slots : (bigSep Finset.univ fun sl : Slot => vacant (F := F) c sl) ⊢ (Pipeline.scopedRest spec0 c : sProp 𝕄) := by
  rw [scopedRest0_eq, slots_buffers]
  iintro ⟨⟨H0, H1⟩, H2, H3⟩
  isplitl [H0]; · iapply (splits_cro c).2; iexact H0
  isplitl [H1]; · iapply (splits_clo c).2; iexact H1
  isplitl [H2]; · iapply (splits_cra c).2; iexact H2
  iapply (splits_cla c).2; iexact H3

end Buffers

/-! ## What is left -/

section Left
variable (K : Dev nD × Key → ℕ) (c : Dev nD)

/-- After the body. -/
def Over : sProp 𝕄 :=
  iprop((bigSep Finset.univ fun sl : Slot => vacant (F := F) c sl)
    ∗ (bigSep Finset.univ fun t : Tr => semVal (sndCell c t) 0) ∗ (bigSep Finset.univ fun t : Tr => semVal (rcvCell c t) 0) ∗ semVal (barCell c) 0
    ∗ (∃ W, owes (c : Thread nD τ) 0 W)
    ∗ (((c : Thread nD τ).loc cc0_stg0_0) ↦{fullShare} aBlk m c) ∗ (((c : Thread nD τ).loc cc0_stg1_0) ↦{fullShare} bBlk m c)
    ∗ (((c : Thread nD τ).loc cc0_stg2_0) ↦{fullShare} outOf m c))

/-- Every row has been made. -/
theorem made_all (f : Vec F S8192x512 .bf16) (h : Made m c 122 f) : f = outOf m c := by
  funext i
  obtain ⟨sl, hu, ho, hh⟩ := org_all c (rowDev i) (rowHalf i)
  exact h i ⟨sl, hu, store_lt sl, ho.symm, hh.symm⟩

theorem slot_last (sl : Slot) (h : sl.idle = false) : slotAt m c 122 sl ⊢ vacant (F := F) c sl := by
  rw [show slotAt m c 122 sl = bigSep Finset.univ fun p : Fin 3 => held c sl (third p) (val m c sl) from bigSep_congr fun p _ => if_pos (av_end sl p h)]
  exact (thirds_held c sl _).trans (held_vacant c sl _)

theorem slots_last : iprop(bigSep Finset.univ (slotAt m c 122) ∗ vacant (F := F) c (.cla 0 0) ∗ vacant (F := F) c (.cla 0 1))
    ⊢ bigSep Finset.univ fun sl : Slot => vacant (F := F) c sl := by
  have hd (t : Tr) : t.dst.idle = false := by revert t; decide +kernel
  have hm : (bigSep Finset.univ fun t : Tr => slotAt m c 122 t.dst) ⊢ bigSep Finset.univ fun t : Tr => vacant (F := F) c t.dst :=
    bigSep_mono fun t _ => slot_last m c t.dst (hd t)
  rw [slots_eq, slots_eq]
  iintro ⟨⟨⟨H0, H1, H2, H3, -, -⟩, Ht⟩, H4, H5⟩
  isplitr [Ht]
  · isplitl [H0]; · iapply (slot_last m c _ rfl); iexact H0
    isplitl [H1]; · iapply (slot_last m c _ rfl); iexact H1
    isplitl [H2]; · iapply (slot_last m c _ rfl); iexact H2
    isplitl [H3]; · iapply (slot_last m c _ rfl); iexact H3
    isplitl [H4]; · iexact H4
    iexact H5
  · iapply hm; iexact Ht

theorem state_over : State m K c 122 ⊢ Over m c := by
  have ht (t : Tr) : t.backAt < 122 ∧ t.landAt < 122 := by revert t; decide +kernel
  unfold State outAt still Over
  rw [owedX_end, bigSep_congr (Φ := txAt (F := F) c 122) fun t _ => show txAt (F := F) c 122 t = semVal (sndCell c t) 0 from
      (if_neg (by have := sent_back t; have := (ht t).1; omega)).trans (if_neg (by have := (ht t).1; omega)),
    bigSep_congr (Φ := rxAt (F := F) c 122) fun t _ => show rxAt (F := F) c 122 t = semVal (rcvCell c t) 0 from if_neg (by have := (ht t).2; omega)]
  iintro ⟨-, -, HO, Htx, Hrx, Hsl, ⟨%f, %hf, Ho⟩, HA, HB, H4, H5, Hz⟩
  rw [made_all m c f hf]
  isplitl [Hsl H4 H5]
  · iapply (slots_last m c)
    isplitl [Hsl]; · iexact Hsl
    isplitl [H4]; · iexact H4
    iexact H5
  isplitl [Htx]; · iexact Htx
  isplitl [Hrx]; · iexact Hrx
  isplitl [Hz]; · iexact Hz
  isplitl [HO]; · iexact HO
  isplitl [HA]; · iexact HA
  isplitl [HB]; · iexact HB
  iexact Ho

/-- The whole body, from start to end. -/
theorem body_ends : Ready m K c ⊢ WP c (here (cc0_body (F := F))) fun _ => Over m c :=
  run_body m K c _ fun _ _ => state_over m K c

end Left

end Cert.Gather

end
-- ==== Proof.Deal.lean ====
/-
# What the launch deals out

The launch mints a round for every cell, a token for every duty, and the credit of everything owed at the start.
Here each device gets what it starts with: its positions, the tokens of the duties it pays (those of its neighbours'
cells come to it around the ring), and the credit of its own waits.
-/
module

public import proofs.«01_k».proof.Proof.Ends

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The cells and the tokens -/

theorem ksem_inj : Function.Injective ksem := by
  rintro (u | k) (u' | k') h
  · rfl
  · cases h
  · cases h
  · exact congrArg Sum.inr (xsem_inj (SemLoc.dma.inj h))

theorem kcell_inj : Function.Injective kcell := fun a b h => Prod.ext (congrArg (fun g : GSem nD τ sig => g.1.1) h) (ksem_inj (congrArg Prod.snd h))

/-- A duty, by the device whose cell it is at: one of three at the barrier, or the one of a transfer cell. -/
abbrev Duty : Type := Fin 3 ⊕ (Tr ⊕ Tr)
def dutyAt (x : Dev nD × Duty) : GSem nD τ sig × ℕ × Fin 3 :=
  match x.2 with
  | .inl d => (barCell x.1, 0, d)
  | .inr k => (kcell (x.1, .inr k), 0, 0)
theorem dutyAt_inj : Function.Injective dutyAt := by
  rintro ⟨c, d | k⟩ ⟨c', d' | k'⟩ h
  · obtain rfl : c = c' := congrArg (fun x : GSem nD τ sig × ℕ × Fin 3 => x.1.1.1) h
    obtain rfl : d = d' := congrArg (fun x : GSem nD τ sig × ℕ × Fin 3 => x.2.2) h
    rfl
  · exact absurd (congrArg (fun x : GSem nD τ sig × ℕ × Fin 3 => x.1.2) h) (fun h' => by cases h')
  · exact absurd (congrArg (fun x : GSem nD τ sig × ℕ × Fin 3 => x.1.2) h) (fun h' => by cases h')
  · have := kcell_inj (congrArg Prod.fst h)
    cases this; rfl

def allCells : Finset (GSem nD τ sig) := Finset.univ.map ⟨kcell, kcell_inj⟩
def allDuties : Finset (GSem nD τ sig × ℕ × Fin 3) := Finset.univ.map ⟨dutyAt, dutyAt_inj⟩

/-- The ghost state at launch: the pipeline's and the protocol's. -/
def u₀ : UU := (initOf (Pipeline.cells cfgs cellOf_inj) (Pipeline.launchToks cfgs cellOf_inj), initOf allCells allDuties)

/-- The tokens of the duties at a device's own cells, -/
def tokens (c : Dev nD) : sProp 𝕄 :=
  iprop((bigSep Finset.univ fun d : Fin 3 => dutyTok ER (barCell c) 0 d)
    ∗ (bigSep Finset.univ fun t : Tr => dutyTok ER (sndCell c t) 0 0) ∗ bigSep Finset.univ fun t : Tr => dutyTok ER (rcvCell c t) 0 0)
/-- and of the duties the device itself pays. -/
def payable (c : Dev nD) : sProp 𝕄 :=
  iprop((bigSep Finset.univ fun d : Fin 3 => dutyTok ER (barCell (nbr (opp d) c)) 0 d)
    ∗ (bigSep Finset.univ fun t : Tr => dutyTok ER (sndCell c t) 0 0) ∗ bigSep Finset.univ fun t : Tr => dutyTok ER (rcvCell (t.to c) t) 0 0)

omit [FloatOps F] [Named F] in
/-- A family over devices and some index, each index's members moved around the ring in a direction of its own. -/
theorem carried {ι : Type} [Fintype ι] [DecidableEq ι] (dir : ι → Fin 3) (Φ : Dev nD → ι → sProp 𝕄) :
    (bigSep Finset.univ fun c : Dev nD => bigSep Finset.univ (Φ c)) = bigSep Finset.univ fun c : Dev nD => bigSep Finset.univ fun i => Φ (nbr (dir i) c) i := by
  rw [bigSep_univ_comm, bigSep_univ_comm (fun (c : Dev nD) i => Φ (nbr (dir i) c) i)]
  exact bigSep_congr fun i _ => bigSep_univ_equiv (turn (dir i)) fun c => Φ c i

omit [FloatOps F] [Named F] in
theorem tokens_carried : (bigSep Finset.univ fun c : Dev nD => (tokens c : sProp 𝕄)) = bigSep Finset.univ fun c : Dev nD => payable c := by
  unfold tokens payable
  rw [bigSep_sep', bigSep_sep', bigSep_sep', bigSep_sep', carried opp fun c d => (dutyTok ER (barCell c) 0 d : sProp 𝕄),
    carried Tr.dir fun c t => (dutyTok ER (rcvCell c t) 0 0 : sProp 𝕄)]
  rfl

/-- What a device has from minting. -/
def minted (c : Dev nD) : sProp 𝕄 :=
  iprop((bigSep Finset.univ fun k : Key => roundState ER (Rd (F := F) m) (kcell (c, k)) 0)
    ∗ (bigSep Finset.univ fun k : Key => iprop(atPos ER (kcell (c, k)) 0 ∅ 0 ∗ reached ER (kcell (c, k)) 0)) ∗ tokens c)

theorem minting : BI.own (ER (initOf allCells allDuties)) ⊢ (|==> bigSep Finset.univ (minted (F := F) m) : sProp 𝕄) := by
  have hC (Φ : GSem nD τ sig → sProp 𝕄) : bigSep allCells Φ = bigSep Finset.univ fun c : Dev nD => bigSep Finset.univ fun k : Key => Φ (kcell (c, k)) := by
    unfold allCells; rw [bigSep_map, bigSep_univ_prod]; rfl
  have hD : bigSep allDuties (fun x => (dutyTok ER x.1 x.2.1 x.2.2 : sProp 𝕄)) = bigSep Finset.univ fun c : Dev nD => tokens c := by
    unfold allDuties; rw [bigSep_map, bigSep_univ_prod]
    exact bigSep_congr fun c _ => by unfold tokens; rw [bigSep_univ_sum, bigSep_univ_sum]; rfl
  iintro H
  imod (Rounds.fund ER (Rd (F := F) m) allCells allDuties) $$ H with ⟨Hs, Hr, Ha, Ht⟩
  imodintro
  ihave Hs := (Entails.of_eq (hC fun g => roundState ER (Rd (F := F) m) g 0)) $$ Hs
  ihave Ha := (Entails.of_eq (hC fun g => atPos ER g 0 ∅ 0)) $$ Ha
  ihave Hr := (Entails.of_eq (hC fun g => reached ER g 0)) $$ Hr
  ihave Ht := (Entails.of_eq hD) $$ Ht
  unfold minted; simp only [bigSep_sep']
  isplitl [Hs]; · iexact Hs
  isplitl [Ha Hr]
  · isplitl [Ha] <;> iassumption
  iexact Ht

/-! ## The counters -/

/-- The kernel's own semaphores: the transfers'. -/
abbrev osem : Tr ⊕ Tr → SemLoc sig := fun k => .dma (xsem k)

theorem xkey_stage (w : Fin cfg0.W) (s) : xkey ((cfg0.spec w).sem s) = none := by
  unfold xkey
  refine dif_neg ?_
  rintro ⟨k, hk⟩
  have h := congrArg Fin.val hk
  revert h
  revert k w s
  decide +kernel

theorem ownSemFacts : Pipeline.OwnSemFacts cfg0.spec osem where
  isScoped := by decide +kernel
  inj := fun a b h => xsem_inj (SemLoc.dma.inj h)
  disj k w s h := by
    have := xkey_stage w s
    rw [← SemLoc.dma.inj h, xkey_xsem] at this
    cases this

omit [FloatOps F] [Named F] in
theorem ownSems_eq (c : Dev nD) : (Pipeline.ownSems0 (Ix := Unit) (Name := ℕ) (U := UU) (Lvl := ℕ) (Val := Elt F) (τ := τ) osem c : sProp 𝕄)
    = iprop((bigSep Finset.univ fun t : Tr => semVal (sndCell c t) 0) ∗ bigSep Finset.univ fun t : Tr => semVal (rcvCell c t) 0) := by
  unfold Pipeline.ownSems0; rw [bigSep_univ_sum]; rfl
omit [FloatOps F] [Named F] in
theorem barrier_eq (c : Dev nD) : (unscopedSems0 c : sProp 𝕄) = semVal (barCell c) 0 := by
  unfold unscopedSems0; rw [bigSep_eq_bigSepL_of_eq [SemLoc.reg barS] (by decide +kernel) (by decide)]; rfl

omit [FloatOps F] [Named F] in
theorem counters_eq (c : Dev nD) : (bigSep Finset.univ fun k : Key => (semVal (kcell (c, k)) 0 : sProp 𝕄))
    = iprop(semVal (barCell c) 0 ∗ (bigSep Finset.univ fun t : Tr => semVal (sndCell c t) 0) ∗ bigSep Finset.univ fun t : Tr => semVal (rcvCell c t) 0) := by
  rw [bigSep_univ_sum, bigSep_univ_sum]; congr 1
  exact bigSep_univ_eq_bigSepL [()] (by decide) (by decide) fun _ : Unit => (semVal (barCell c) 0 : sProp 𝕄)

/-! ## The invariants are made, and everyone learns them -/

/-- What a device holds once they are: the record of all cells, and what is its own. -/
def knows (c : Dev nD) : sProp 𝕄 := iprop(∃ K, records (F := F) m K ∗ mine (F := F) c)

theorem open_cells (c : Dev nD) :
    iprop(Pipeline.ownSems0 (Ix := Unit) (Name := ℕ) (U := UU) (Lvl := ℕ) (Val := Elt F) (τ := τ) osem c ∗ unscopedSems0 c ∗ minted (F := F) m c)
      ⊢ |={Set.univ}=> iprop((bigSep Finset.univ fun k : Key => iprop(∃ κ : ℕ, cellInv ER (Rd (F := F) m) κ (kcell (c, k))))
          ∗ (bigSep Finset.univ fun k : Key => iprop(atPos ER (kcell (c, k)) 0 ∅ 0 ∗ reached ER (kcell (c, k)) 0)) ∗ tokens c) := by
  have hA : iprop((bigSep Finset.univ fun k : Key => semVal (kcell (c, k)) 0) ∗ bigSep Finset.univ fun k : Key => roundState ER (Rd (F := F) m) (kcell (c, k)) 0)
      ⊢ (|={Set.univ}=> bigSep Finset.univ fun k : Key => iprop(∃ κ : ℕ, cellInv ER (Rd (F := F) m) κ (kcell (c, k))) : sProp 𝕄) := by
    rw [← bigSep_sep']
    exact (bigSep_mono fun k _ => (Rounds.body_intro ER (Rd (F := F) m) (kcell (c, k))).trans inv_alloc).trans (bigSep_fupd _ _)
  rw [counters_eq] at hA
  rw [ownSems_eq, barrier_eq]
  unfold minted
  iintro ⟨⟨Hs, Hr⟩, Hb, Hst, Hat, Ht⟩
  imod hA $$ [Hs Hr Hb Hst] with HI
  · isplitr [Hst]
    · isplitl [Hb]; · iexact Hb
      isplitl [Hs] <;> iassumption
    · iexact Hst
  imodintro
  isplitl [HI]; · iexact HI
  isplitl [Hat]; · iexact Hat
  iexact Ht

omit [FloatOps F] [Named F] in
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] [Named F] in
theorem mine_intro (c : Dev nD) : iprop((bigSep Finset.univ fun k : Key => (atPos ER (kcell (c, k)) 0 ∅ 0 : sProp 𝕄)) ∗ payable c) ⊢ mine (F := F) c := by
  unfold payable mine
  rw [bigSep_three]
  iintro ⟨Ha, Hb, Hs, Hr⟩
  isplitl [Ha]; · iexact Ha
  isplitl [Hb]; · iexact Hb
  isplitl [Hs]; · iexact Hs
  iexact Hr

theorem share_out :
    (bigSep Finset.univ fun c : Dev nD => iprop((bigSep Finset.univ fun k : Key => iprop(∃ κ : ℕ, cellInv ER (Rd (F := F) m) κ (kcell (c, k))))
          ∗ (bigSep Finset.univ fun k : Key => iprop(atPos ER (kcell (c, k)) 0 ∅ 0 ∗ reached ER (kcell (c, k)) 0)) ∗ tokens c) : sProp 𝕄)
      ⊢ bigSep Finset.univ (knows (F := F) m) := by
  rw [bigSep_sep', bigSep_sep', tokens_carried, ← bigSep_univ_prod (fun ck : Dev nD × Key => iprop(∃ κ : ℕ, cellInv ER (Rd (F := F) m) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Ha, #HR⟩, Ht⟩
  ihave HK := (BI.bigSep_exists_pi Finset.univ (fun (ck : Dev nD × Key) (κ : ℕ) => (cellInv ER (Rd (F := F) m) κ (kcell ck) : sProp 𝕄))) $$ HI
  icases HK with ⟨%K, #HI⟩
  have hk (c : Dev nD) : iprop(records (F := F) m K ∗ mine (F := F) c) ⊢ knows (F := F) m c := by
    unfold knows; iintro H; iexists K; iexact H
  iapply (with_known (R := records (F := F) m K) fun c _ => hk c)
  isplitr
  · unfold records; isplitl; · iexact HI
    iexact HR
  · iapply ((Entails.of_eq (bigSep_sep' Finset.univ (fun c : Dev nD => bigSep Finset.univ fun k : Key => (atPos ER (kcell (c, k)) 0 ∅ 0 : sProp 𝕄)) payable).symm).trans
      (bigSep_mono fun c _ => mine_intro c))
    isplitl [Ha]; · iexact Ha
    iexact Ht

theorem opening : (bigSep Finset.univ fun c => iprop(Pipeline.ownSems0 (Ix := Unit) (Name := ℕ) (U := UU) (Lvl := ℕ) (Val := Elt F) (τ := τ) osem c
      ∗ unscopedSems0 c ∗ minted (F := F) m c) : sProp 𝕄) ⊢ |={Set.univ}=> bigSep Finset.univ (knows (F := F) m) :=
  ((bigSep_mono fun c _ => open_cells m c).trans (bigSep_fupd _ _)).trans (BI.fupd_mono (share_out m))

/-! ## The credit of a device's own waits -/

/-- All that is owed to device `c` at the start. -/
def due (c : Dev nD) : CellTallies nD τ sig Unit := (∑ t : Tr, tallyAt (rcvCell c t) () N) + tallyAt (barCell c) () 3

theorem owedB3_sum : (∑ d, owedB3 d) = ∑ d, due d := by
  have hX (c : Dev nD) : owedX c 0 = ∑ t : Tr, tallyAt (rcvCell (t.to c) t) () N := Finset.sum_congr rfl fun t _ => if_pos (Nat.zero_le _)
  have hB (d : Fin 3) : (∑ c : Dev nD, (tallyAt (barCell (nbr d c)) () 1 : CellTallies nD τ sig Unit)) = ∑ c : Dev nD, tallyAt (barCell c) () 1 :=
    Equiv.sum_comp (turn d) fun c => (tallyAt (barCell c) () 1 : CellTallies nD τ sig Unit)
  have h3 (c : Dev nD) : (tallyAt (barCell c) () 3 : CellTallies nD τ sig Unit) = tallyAt (barCell c) () 1 + tallyAt (barCell c) () 1 + tallyAt (barCell c) () 1 := by
    rw [tallyAt_add, tallyAt_add]
  have hR (t : Tr) : (∑ c : Dev nD, (tallyAt (rcvCell (t.to c) t) () N : CellTallies nD τ sig Unit)) = ∑ c : Dev nD, tallyAt (rcvCell c t) () N :=
    Equiv.sum_comp (turn t.dir) fun c => (tallyAt (rcvCell c t) () N : CellTallies nD τ sig Unit)
  unfold owedB3 owedB2 owedB1 due
  simp only [hX, h3, Finset.sum_add_distrib, hB]
  rw [Finset.sum_comm, Finset.sum_comm (f := fun (c : Dev nD) (t : Tr) => (tallyAt (rcvCell c t) () N : CellTallies nD τ sig Unit)),
    Finset.sum_congr rfl fun t _ => hR t]
  abel

theorem due_here (c : Dev nD) (g : GSem nD τ sig) (h : due c g ≠ 0) : g.1 = (c.tc : Thread nD τ) := by
  by_contra hg
  apply h
  unfold due
  rw [Pi.add_apply, Finset.sum_apply, tallyAt_ne_cell (fun e => hg (congrArg Prod.fst e)), add_zero]
  exact Finset.sum_eq_zero fun t _ => tallyAt_ne_cell (fun e => hg (congrArg Prod.fst e)) _ _

omit [FloatOps F] [Named F] in
theorem credits (c : Dev nD) : (Pipeline.launchCred owedB3 c : sProp 𝕄)
    ⊢ iprop(cred (tallyAt (barCell c) () 3) ∗ bigSep Finset.univ fun t : Tr => cred (tallyAt (rcvCell c t) () N)) := by
  rw [Pipeline.launchCred_of_sum owedB3 due owedB3_sum due_here c]
  unfold due
  rw [← Pipeline.cred_finsetSum]
  iintro H
  ihave H := (cred_add _ _).1 $$ H
  icases H with ⟨H1, H2⟩
  isplitl [H2] <;> iassumption

end Cert.Gather

end
-- ==== Proof.Launch.lean ====
/-
# The run

Every device's body meets the pipeline's obligation, so the launch runs to its end from any memory with zero counters,
and every final state has each device's result array at `outOf`, its arguments as they were, and all counters at zero.
-/
module

public import proofs.«01_k».proof.Proof.Deal
public import Idealize.ShloMosaic.Lib.Quiescent
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## The proof data -/

/-- What a device holds at the kernel's entry, beside its buffers. -/
def start (c : Dev nD) : sProp 𝕄 :=
  iprop(knows (F := F) m c ∗ (cred (tallyAt (barCell c) () 3) ∗ bigSep Finset.univ fun t : Tr => cred (tallyAt (rcvCell c t) () N)) ∗ levAts L lv)

def before (c : Dev nD) : sProp 𝕄 := iprop(start (F := F) m c ∗ bigSep Finset.univ fun sl : Slot => vacant (F := F) c sl)
def afterwards (c : Dev nD) : sProp 𝕄 :=
  iprop((bigSep Finset.univ fun sl : Slot => vacant (F := F) c sl)
    ∗ (bigSep Finset.univ fun t : Tr => semVal (sndCell c t) 0) ∗ (bigSep Finset.univ fun t : Tr => semVal (rcvCell c t) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aBlk m c
    | ⟨1, _⟩ => bBlk m c
    | ⟨2, _⟩ => outOf m c
  Φ t := match t with
    | ⟨0, _⟩ => before (F := F) m c
    | ⟨_ + 1, _⟩ => afterwards (F := F) c
  q _ := fullShare
  owed t := match t with
    | ⟨0, _⟩ => owedB3 c
    | ⟨_ + 1, _⟩ => 0

/-! ## The body's obligation -/

/-- A staging buffer holding `X`, as the obligation spells it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] [Named F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(before (F := F) m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(afterwards (F := F) c ∗ (dats m ρ 0 c).owesAt () t0_0.succ
    ∗ stg c cc0_stg0_0 (aBlk m c) ∗ stg c cc0_stg1_0 (bBlk m c) ∗ stg c cc0_stg2_0 (outOf m c))

theorem post_of_over (c : Dev nD) : Over m c ⊢ bodyPost m ρ c := by
  unfold Over bodyPost afterwards Dat.owesAt Pipeline.owesWithin
  rw [show (dats m ρ 0 c).owed t0_0.succ = 0 from rfl]
  iintro ⟨Hv, Hs, Hr, Hb, ⟨%W, HO⟩, HA, HB, HC⟩
  isplitl [Hv Hs Hr Hb]
  · isplitl [Hv]; · iexact Hv
    isplitl [Hs]; · iexact Hs
    isplitl [Hr]; · iexact Hr
    iexact Hb
  isplitl [HO]
  · iexists W
    isplitr; · ipureintro; exact fun _ _ => Or.inl trivial
    iexact HO
  isplitl [HA]
  · iexists _; isplitr; · (ipureintro; rfl)
    iexact HA
  isplitl [HB]
  · iexists _; isplitr; · (ipureintro; rfl)
    iexact HB
  · iexists _; isplitr; · (ipureintro; rfl)
    iexact HC

theorem ready_of_pre (c : Dev nD) : bodyPre m ρ c ⊢ iprop(∃ K, Ready m K c) := by
  have h0 (d) : (dats m ρ 0 c).before (0 : Fin 3) t0_0 d = aBlk m c := by unfold Dat.before; rw [if_pos (fetch0_0 _)]; rfl
  have h1 (d) : (dats m ρ 0 c).before (1 : Fin 3) t0_0 d = bBlk m c := by unfold Dat.before; rw [if_pos (fetch0_1 _)]; rfl
  unfold bodyPre before start knows Dat.owesAt Pipeline.owesWithin Ready Tools
  rw [show (dats m ρ 0 c).owed t0_0.castSucc = owedB3 c from rfl]
  iintro ⟨⟨⟨⟨%K, #HR, Hm⟩, ⟨Hcb, Hcr⟩, #HL⟩, Hv⟩, ⟨%W, -, HO⟩, ⟨%d0, %f0, %e0, HA⟩, ⟨%d1, %f1, %e1, HB⟩, ⟨%d2, %f2, -, HC⟩⟩
  have e0' := e0.trans (h0 d0)
  have e1' := e1.trans (h1 d1)
  subst e0' e1'
  iexists K
  isplitr [Hv]
  · isplitr; · iexact HR
    isplitr; · iexact HL
    isplitl [HO]; · iexists W; iexact HO
    isplitl [Hm]; · iexact Hm
    isplitl [Hcb]; · iexact Hcb
    isplitl [Hcr]; · iexact Hcr
    isplitl [HC]; · iexists f2; iexact HC
    isplitl [HA]; · iexact HA
    iexact HB
  · iexact Hv

omit [FloatOps F] [Named F] in
theorem windows_eq (Φ : Fin cfg0.W → sProp 𝕄) : bigSep Finset.univ Φ = iprop(Φ (0 : Fin 3) ∗ Φ (1 : Fin 3) ∗ Φ (2 : Fin 3)) := bigSep_W0 Φ

set_option maxRecDepth 8000 in
theorem obligation (c : Dev nD) : BodyObligation (dats (F := F) m ρ 0 c) (defs₀ (F := F)) 𝒱₀ () Set.univ := fun t => by
  rw [fin_N0 t, windows_eq, windows_eq]
  simp only [owns_stg]
  have h (K : Dev nD × Key → ℕ) : Ready m K c ⊢ wp frame (wpE (defs₀ (F := F)) 𝒱₀ c none) Set.univ (here (cc0_body (F := F))) (fun _ => bodyPost m ρ c) :=
    run_body m K c _ fun _ _ => (state_over m K c).trans (post_of_over m ρ c)
  have hb : defs₀ (F := F) .tc 0 (t0_0, cfg0.slots t0_0) = here (cc0_body (F := F)) := rfl
  have hpost : bodyPost m ρ c = iprop((dats m ρ 0 c).Φ t0_0.succ ∗ (dats m ρ 0 c).owesAt () t0_0.succ ∗ stg c cc0_stg0_0 ((dats m ρ 0 c).after (0 : Fin 3) t0_0)
    ∗ stg c cc0_stg1_0 ((dats m ρ 0 c).after (1 : Fin 3) t0_0) ∗ stg c cc0_stg2_0 ((dats m ρ 0 c).after (2 : Fin 3) t0_0)) := rfl
  rw [hb]
  simp only [hpost] at h
  refine (ready_of_pre m ρ c).trans ?_
  iintro ⟨%K, H⟩
  iapply (h K)
  iexact H

/-! ## The launch's side conditions -/

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owedB3 c ∗ prngReg c (ρ c) ∗ knows (F := F) m c)
      ⊢ |={Set.univ}=> iprop(start (F := F) m c ∗ emp) := by
  iintro ⟨-, HL, Hc, -, Hk⟩
  ihave Hc := (credits (F := F) c) $$ Hc
  imodintro
  unfold start
  isplitl
  · isplitl [Hk]; · iexact Hk
    isplitl [Hc]; · iexact Hc
    iexact HL
  · iempintro

theorem enter (c : Dev nD) :
    iprop(start (F := F) m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before (F := F) m c from rfl]
  unfold before
  iintro ⟨Hs, -, Hr⟩
  isplitl [Hs]; · iexact Hs
  iapply (slots_of_rest (F := F) c); iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = afterwards (F := F) c from rfl, ownSems_eq, barrier_eq]
  unfold afterwards
  iintro ⟨Hv, Hs, Hr, Hb⟩
  isplitl [Hb]; · iexact Hb
  isplitl [Hs Hr]
  · isplitl [Hs] <;> iassumption
  iapply (rest_of_slots (F := F) c); iexact Hv

theorem stage_waits (c : Dev nD) : (levAts L lv : sProp 𝕄) ⊢ Pipeline.cellsWaits cfgs (dats (F := F) m ρ) () 0 c :=
  Pipeline.cellsWaits_intro cfgs (dats m ρ) () 0 c fun w s t => mayWait_stage c _ (xkey_stage w s) _ (by
    rcases t with ⟨_ | _, ht⟩
    · exact Or.inl rfl
    · exact Or.inr rfl)

/-! ## The run -/

/-- An array after the run. -/
def finalA (c : Dev nD) (w : Fin cfg0.W) : Buf (Elt F) ((cfg0.win w).arr.view.loc (c : Thread nD τ)) := (dats m ρ 0 c).arrAt w cfg0.N

set_option maxRecDepth 40000 in
/-- From any memory with zero counters the sixteen devices end, with each array at `finalA` and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0)
    (hshare := share_full m ρ) (hdistinct := winFacts0.arr_inj)
    (O₀ := owedB3) (howed₀ := fun _ => rfl) (howedN := fun _ => rfl)
    (L := L) (lv := lv) (hL := L_of_ne) (hwaits := stage_waits m ρ)
    (G := minted m) (G' := knows m) (u₀ := u₀)
    (hu₀ := by
      unfold u₀
      iintro H
      ihave H := (ownU_pair _ _) $$ H
      icases H with ⟨HP, HX⟩
      imod (minting (F := F) m) $$ HX with HG
      imodintro
      isplitl [HP] <;> iassumption)
    (hglob := opening m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_arg0 (c : Dev nD) : finalA m ρ c (0 : Fin 3) = m ((c.tc : Thread nD τ).loc main_arg0) := (dats (F := F) m ρ 0 c).arrAt_in (0 : Fin 3) rfl _
theorem finalA_arg1 (c : Dev nD) : finalA m ρ c (1 : Fin 3) = m ((c.tc : Thread nD τ).loc main_arg1) := (dats (F := F) m ρ 0 c).arrAt_in (1 : Fin 3) rfl _

end Cert.Gather

end
-- ==== Proof.Frames.lean ====
/-
# The programs as printed end with their arguments unchanged and their counters at zero
-/
module

public import proofs.«01_k».proof.Defs
public import proofs.«01_k».proof.Proof.Launch
public import proofs.«01_k».proof.Proof.Gen.Kernel

@[expose] public section

noncomputable section

namespace Cert.Gather

open Cert.KernelIdeal.Gen
open Idealize.ShloMosaic
open Idealize.ShloMosaic.TcCoe
open Idealize.SL.Sem

/-- At the hardware's floats a named constant is the word the program prints there. -/
instance namedBits : Named Bits where
  named _ _ {φ} w := Scalar.ofBits φ w

section Any
variable {F : FTy → Type} [FloatOps F] [Named F]

/-- The arguments unchanged and the counters at zero, whatever the float values. -/
theorem run_frame (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun r h => ⟨fun c => ⟨(h.1 c (0 : Fin 3)).trans (finalA_arg0 m g c), (h.1 c (1 : Fin 3)).trans (finalA_arg1 m g c)⟩, h.2⟩) (run_main m g)

end Any

theorem frame_ideal : quiescent_KernelIdeal (hKernelIdeal := Cert.KernelIdeal.Gen.facts) := fun m g _ => run_frame m g

/-! ## The two printings are one program

They differ in the one constant, which reads the same at `Bits`. -/

set_option maxRecDepth 20000

theorem body_eq : Cert.Kernel.cc0_body (F := Bits) = Cert.KernelIdeal.cc0_body (F := Bits) := rfl
theorem kernels_eq : Cert.Kernel.defs₀ (F := Bits) = Cert.KernelIdeal.defs₀ (F := Bits) := by
  unfold Cert.Kernel.defs₀ Cert.KernelIdeal.defs₀
  refine congrArg Defs.onTc ?_
  funext l x
  obtain rfl : l = (0 : Fin 1) := Subsingleton.elim _ _
  obtain ⟨t, s⟩ := x
  rfl
theorem defs_eq : Cert.Kernel.defs (F := Bits) = Cert.KernelIdeal.defs (F := Bits) := by
  show Pipeline.defs Cert.Kernel.pcfgs Cert.Kernel.defs₀ = Pipeline.defs Cert.KernelIdeal.pcfgs Cert.KernelIdeal.defs₀
  rw [kernels_eq]; rfl

theorem frame_bits : quiescent_Kernel (hKernel := Cert.Kernel.Gen.facts) := fun m g _ => by
  rw [defs_eq]
  exact run_frame (F := Bits) m g

end Cert.Gather

end
-- ==== Proof.Result.lean ====
/-
# The kernel and the reference end with the same result

The result array is written back whole once, so it ends at `outOf`; the argument blocks are the whole arguments. The
row of the result a device makes from another's block is the row of the whole argument that block holds.
-/
module

public import proofs.«01_k».proof.Proof.Value
public import proofs.«01_k».proof.Proof.Frames
public import proofs.«01_k».proof.Proof.Gen.ReferenceIdeal.Run
public import Idealize.ShloMosaic.Lib.Pipeline.Value

@[expose] public section

noncomputable section

namespace Cert.Gather

open Idealize.ShloMosaic
open Idealize.ShloMosaic.TcCoe
open Idealize.ShloMosaic.ValueIdx
open Idealize.SL.Sem

section Kernel
open Cert.KernelIdeal Cert.KernelIdeal.Gen

variable {F : FTy → Type} [FloatOps F] [Named F]
variable (m : (ℓ : Loc nD τ sig) → Buf (Elt F) ℓ) (ρ : Dev nD → PrngReg)

/-- The blocks are the whole arguments. -/
theorem aBlk_eq (c : Dev nD) : aBlk m c = m ((c.tc : Thread nD τ).loc main_arg0) := by
  refine Eq.trans ?_ (V_main_arg0 m c)
  exact Memref.read_access_unit_zero (Elt F) main_arg0
    (show (fun a => (win0_0.index t0_0) a * main_arg0.ty.shape.size a) = fun _ => 0 from funext fun a => by fin_cases a <;> decide)
    (fun a => by fin_cases a <;> decide) (V m c main_arg0)
theorem bBlk_eq (c : Dev nD) : bBlk m c = m ((c.tc : Thread nD τ).loc main_arg1) := by
  refine Eq.trans ?_ (V_main_arg1 m c)
  exact Memref.read_access_unit_zero (Elt F) main_arg1
    (show (fun a => (win0_1.index t0_0) a * main_arg1.ty.shape.size a) = fun _ => 0 from funext fun a => by fin_cases a <;> decide)
    (fun a => by fin_cases a <;> decide) (V m c main_arg1)

/-- The one write-back covers the result. -/
theorem read_out (c : Dev nD) (f : Buf (Elt F) ((c.tc : Thread nD τ).loc main_v1)) : ((cfg0.win (2 : Fin 3)).blk t0_0).view.read (Elt F) f = f :=
  Memref.read_access_unit_zero (Elt F) main_v1
    (show (fun a => (win0_2.index t0_0) a * main_v1.ty.shape.size a) = fun _ => 0 from funext fun a => by fin_cases a <;> decide)
    (fun a => by fin_cases a <;> decide) _

theorem finalA_out (c : Dev nD) : finalA m ρ c (2 : Fin 3) = outOf m c := by
  have h := (dats m ρ 0 c).read_blk_arrAt (2 : Fin 3) (outOf m c) (fun t _ => by
    rw [fin_N0 t]; exact (read_out c (outOf m c)).symm) t0_0 (flush0_2 _)
  exact ((read_out c _).symm.trans h).trans (read_out c _)

/-- The result and the arguments of every run. -/
theorem run_result : θ_run defs (onTc (τ := τ) (main (F := F))) ⟨m, fun _ => 0, ρ⟩ (fun r => ∀ c : Dev nD,
    r.2.mem ((c.tc : Thread nD τ).loc main_v1) = outOf m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run _ _ _).mono (fun r h c => ⟨(h.1 c (2 : Fin 3)).trans (finalA_out m ρ c),
    (h.1 c (0 : Fin 3)).trans (finalA_arg0 m ρ c), (h.1 c (1 : Fin 3)).trans (finalA_arg1 m ρ c)⟩) (run_main m ρ)

end Kernel

/-! ## At the ideal values -/

section Ideal
open Cert.KernelIdeal Cert.KernelIdeal.Gen

/-- A row of the whole `A`, found in its device's block. -/
theorem row_block (A : (⟨2, ![8192, 256]⟩ : Shape).Idx → EReal) (i : S8192x512.Idx) (k : Fin 256) (s : Fin 512)
    (hs : s.val = 256 * (rowHalf i).val + (i 0).val % 256) :
    Layout.block ⟨2, ![512, 256]⟩ ⟨2, ![8192, 256]⟩ 0 16 (rowDev i) A (by decide) (ix2 s k) = A (ix2 (i 0) k) := by
  refine congrArg A (funext fun a => Fin.ext ?_)
  fin_cases a
  · show (i 0).val / 512 * 512 + s.val = (i 0).val
    rw [hs]
    show (i 0).val / 512 * 512 + (256 * ((i 0).val % 512 / 256) + (i 0).val % 256) = (i 0).val
    omega
  · rfl

theorem out_eq (m : (ℓ : Loc nD τ sig) → Buf (Elt Ideal) ℓ) (A : FVec Ideal ⟨2, ![8192, 256]⟩ .bf16) (B : FVec Ideal S256x512 .bf16)
    (hA : ∀ d : Dev nD, m ((d.tc : Thread nD τ).loc main_arg0) = Layout.block ⟨2, ![512, 256]⟩ ⟨2, ![8192, 256]⟩ 0 16 d A)
    (hB : ∀ d : Dev nD, m ((d.tc : Thread nD τ).loc main_arg1) = B) (c : Dev nD) : outOf m c = refOut A B := by
  funext i
  have hs : 256 * (rowHalf i).val + (i 0).val % 256 < 512 := by
    show 256 * ((i 0).val % 512 / 256) + (i 0).val % 256 < 512
    omega
  have hi : inBlk i = ix2 (⟨(i 0).val % 256, Nat.mod_lt _ (by decide)⟩ : Fin 256) (i 1 : Fin 512) := by
    funext a; fin_cases a <;> rfl
  calc outOf m c i = product (aBlk m (rowDev i)) (bBlk m c) ⟨_, hs⟩ (i 1) := by
        unfold outOf scaled quant
        rw [hi]
        exact kernel_apply _ _ _ _ _ ⟨_, hs⟩ rfl
    _ = product A B (i 0) (i 1) := by
        unfold product
        rw [aBlk_eq, bBlk_eq, hA, hB]
        exact Finset.sum_congr rfl fun k _ => by rw [row_block A i k ⟨_, hs⟩ rfl]
    _ = refOut A B (ix2 (i 0) (i 1)) := (refOut_apply A B (i 0) (i 1)).symm
    _ = refOut A B i := congrArg _ (eq_ix2 i).symm

end Ideal

theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem scale_named : preserves_Kernel_KernelIdeal := IdealRules.named_const.statement _ _ _ _ _ rfl

theorem same_result : algebraic_KernelIdeal_ReferenceIdeal (hKernelIdeal := Cert.KernelIdeal.Gen.facts)
    (hReferenceIdeal := Cert.ReferenceIdeal.Gen.facts) := fun m g m' g' _ hm =>
  ⟨refOut _ _,
    (θ_run _ _ _).mono (fun r h c => ⟨(h c).1.trans (out_eq m _ _ (fun d => (hm d).1) (fun d => (hm d).2) c), (h c).2⟩) (run_result m g),
    (θ_run _ _ _).mono (fun r h => h 0) (Cert.ReferenceIdeal.Value.run m' g')⟩

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Gather.frame_bits, Cert.Gather.frame_ideal,
    Cert.Gather.frame_reference, Cert.Gather.scale_named, Cert.Gather.same_result⟩

end Cert.Proof

end
